-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![2, 512, 2, 64]⟩ ⟨4, ![2, 16384, 2, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![2, 512, 2, 64]⟩ ⟨4, ![2, 16384, 2, 64]⟩ 1 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x768 : Shape := ⟨3, ![2, 256, 768]⟩
abbrev S768x512 : Shape := ⟨2, ![768, 512]⟩
abbrev S512x768 : Shape := ⟨2, ![512, 768]⟩
abbrev S2x512x2x64 : Shape := ⟨4, ![2, 512, 2, 64]⟩
abbrev S32x72x128 : Shape := ⟨3, ![32, 72, 128]⟩
abbrev S31 : Shape := ⟨1, ![31]⟩
abbrev S_ : Shape := ⟨0, ![]⟩
abbrev S1x256x768 : Shape := ⟨3, ![1, 256, 768]⟩
abbrev S256x768 : Shape := ⟨2, ![256, 768]⟩
abbrev S256x512 : Shape := ⟨2, ![256, 512]⟩
abbrev S256x64 : Shape := ⟨2, ![256, 64]⟩
abbrev S1x512x1x64 : Shape := ⟨4, ![1, 512, 1, 64]⟩
abbrev S512x64 : Shape := ⟨2, ![512, 64]⟩
abbrev S512x256 : Shape := ⟨2, ![512, 256]⟩
abbrev S256 : Shape := ⟨1, ![256]⟩
abbrev S1x256 : Shape := ⟨2, ![1, 256]⟩
abbrev S64x256 : Shape := ⟨2, ![64, 256]⟩
abbrev S64x128 : Shape := ⟨2, ![64, 128]⟩
abbrev S1x64x128 : Shape := ⟨3, ![1, 64, 128]⟩
abbrev S1x128 : Shape := ⟨2, ![1, 128]⟩
abbrev S1x1x128 : Shape := ⟨3, ![1, 1, 128]⟩
abbrev S1 : Shape := ⟨1, ![1]⟩
abbrev S1x72x128 : Shape := ⟨3, ![1, 72, 128]⟩
abbrev S16x72x128 : Shape := ⟨3, ![16, 72, 128]⟩
abbrev S16x1x128 : Shape := ⟨3, ![16, 1, 128]⟩
abbrev S16x64x128 : Shape := ⟨3, ![16, 64, 128]⟩
abbrev S8x72x128 : Shape := ⟨3, ![8, 72, 128]⟩
abbrev S8x1x128 : Shape := ⟨3, ![8, 1, 128]⟩
abbrev S8x64x128 : Shape := ⟨3, ![8, 64, 128]⟩
abbrev S4x72x128 : Shape := ⟨3, ![4, 72, 128]⟩
abbrev S4x1x128 : Shape := ⟨3, ![4, 1, 128]⟩
abbrev S4x64x128 : Shape := ⟨3, ![4, 64, 128]⟩
abbrev S2x72x128 : Shape := ⟨3, ![2, 72, 128]⟩
abbrev S2x1x128 : Shape := ⟨3, ![2, 1, 128]⟩
abbrev S2x64x128 : Shape := ⟨3, ![2, 64, 128]⟩
abbrev S1x66x128 : Shape := ⟨3, ![1, 66, 128]⟩
abbrev S64x768 : Shape := ⟨2, ![64, 768]⟩

abbrev nBuf : Space → Nat
  | .hbm => 6
  | .vmem => 8
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S512x768, .f32⟩
  | .hbm, ⟨3, _⟩ => ⟨S2x512x2x64, .f32⟩
  | .hbm, ⟨4, _⟩ => ⟨S2x512x2x64, .f32⟩
  | .hbm, ⟨5, _⟩ => ⟨S2x256x768, .f32⟩
  | .local _ .vmem, ⟨0, _⟩ => ⟨S2x256x768, .f32⟩
  | .local _ .vmem, ⟨1, _⟩ => ⟨S768x512, .f32⟩
  | .local _ .vmem, ⟨2, _⟩ => ⟨S512x768, .f32⟩
  | .local _ .vmem, ⟨3, _⟩ => ⟨S2x512x2x64, .f32⟩
  | .local _ .vmem, ⟨4, _⟩ => ⟨S2x512x2x64, .f32⟩
  | .local _ .vmem, ⟨5, _⟩ => ⟨S2x256x768, .f32⟩
  | .local _ .vmem, ⟨6, _⟩ => ⟨S32x72x128, .f32⟩
  | .local _ .vmem, ⟨7, _⟩ => ⟨S32x72x128, .f32⟩
  | _, _ => ⟨S2x256x768, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v25 : BitVec 32 := Scalar.xori v2 c8_i32
  let c1_i32_22 : BitVec 32 := 1#32
  let v26 : BitVec 32 := Scalar.muli v25 c1_i32_22
  let v27 : BitVec 32 := Scalar.addi c0_i32_23 v26
  v27.toNat
def k0_dev9 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v28 : BitVec 32 := Scalar.xori v2 c9_i32
  let c1_i32_25 : BitVec 32 := 1#32
  let v29 : BitVec 32 := Scalar.muli v28 c1_i32_25
  let v30 : BitVec 32 := Scalar.addi c0_i32_26 v29
  v30.toNat
def k0_dev10 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v31 : BitVec 32 := Scalar.xori v2 c10_i32
  let c1_i32_28 : BitVec 32 := 1#32
  let v32 : BitVec 32 := Scalar.muli v31 c1_i32_28
  let v33 : BitVec 32 := Scalar.addi c0_i32_29 v32
  v33.toNat
def k0_dev11 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v34 : BitVec 32 := Scalar.xori v2 c11_i32
  let c1_i32_31 : BitVec 32 := 1#32
  let v35 : BitVec 32 := Scalar.muli v34 c1_i32_31
  let v36 : BitVec 32 := Scalar.addi c0_i32_32 v35
  v36.toNat
def k0_dev12 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v37 : BitVec 32 := Scalar.xori v2 c12_i32
  let c1_i32_34 : BitVec 32 := 1#32
  let v38 : BitVec 32 := Scalar.muli v37 c1_i32_34
  let v39 : BitVec 32 := Scalar.addi c0_i32_35 v38
  v39.toNat
def k0_dev13 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v40 : BitVec 32 := Scalar.xori v2 c13_i32
  let c1_i32_37 : BitVec 32 := 1#32
  let v41 : BitVec 32 := Scalar.muli v40 c1_i32_37
  let v42 : BitVec 32 := Scalar.addi c0_i32_38 v41
  v42.toNat
def k0_dev14 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v43 : BitVec 32 := Scalar.xori v2 c14_i32
  let c1_i32_40 : BitVec 32 := 1#32
  let v44 : BitVec 32 := Scalar.muli v43 c1_i32_40
  let v45 : BitVec 32 := Scalar.addi c0_i32_41 v44
  v45.toNat
def k0_dev15 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v46 : BitVec 32 := Scalar.xori v2 c15_i32
  let c1_i32_43 : BitVec 32 := 1#32
  let v47 : BitVec 32 := Scalar.muli v46 c1_i32_43
  let v48 : BitVec 32 := Scalar.addi c0_i32_44 v47
  v48.toNat
def k0_dev16 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v49 : BitVec 32 := Scalar.xori v2 c16_i32
  let c1_i32_46 : BitVec 32 := 1#32
  let v50 : BitVec 32 := Scalar.muli v49 c1_i32_46
  let v51 : BitVec 32 := Scalar.addi c0_i32_47 v50
  v51.toNat
def k0_dev17 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v52 : BitVec 32 := Scalar.xori v2 c17_i32
  let c1_i32_49 : BitVec 32 := 1#32
  let v53 : BitVec 32 := Scalar.muli v52 c1_i32_49
  let v54 : BitVec 32 := Scalar.addi c0_i32_50 v53
  v54.toNat
def k0_dev18 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v55 : BitVec 32 := Scalar.xori v2 c18_i32
  let c1_i32_52 : BitVec 32 := 1#32
  let v56 : BitVec 32 := Scalar.muli v55 c1_i32_52
  let v57 : BitVec 32 := Scalar.addi c0_i32_53 v56
  v57.toNat
def k0_dev19 (d0 : Dev nD) : Nat :=
  let c0_i32_56 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v58 : BitVec 32 := Scalar.xori v2 c19_i32
  let c1_i32_55 : BitVec 32 := 1#32
  let v59 : BitVec 32 := Scalar.muli v58 c1_i32_55
  let v60 : BitVec 32 := Scalar.addi c0_i32_56 v59
  v60.toNat
def k0_dev20 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v61 : BitVec 32 := Scalar.xori v2 c20_i32
  let c1_i32_58 : BitVec 32 := 1#32
  let v62 : BitVec 32 := Scalar.muli v61 c1_i32_58
  let v63 : BitVec 32 := Scalar.addi c0_i32_59 v62
  v63.toNat
def k0_dev21 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v64 : BitVec 32 := Scalar.xori v2 c21_i32
  let c1_i32_61 : BitVec 32 := 1#32
  let v65 : BitVec 32 := Scalar.muli v64 c1_i32_61
  let v66 : BitVec 32 := Scalar.addi c0_i32_62 v65
  v66.toNat
def k0_dev22 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v67 : BitVec 32 := Scalar.xori v2 c22_i32
  let c1_i32_64 : BitVec 32 := 1#32
  let v68 : BitVec 32 := Scalar.muli v67 c1_i32_64
  let v69 : BitVec 32 := Scalar.addi c0_i32_65 v68
  v69.toNat
def k0_dev23 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v70 : BitVec 32 := Scalar.xori v2 c23_i32
  let c1_i32_67 : BitVec 32 := 1#32
  let v71 : BitVec 32 := Scalar.muli v70 c1_i32_67
  let v72 : BitVec 32 := Scalar.addi c0_i32_68 v71
  v72.toNat
def k0_dev24 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v73 : BitVec 32 := Scalar.xori v2 c24_i32
  let c1_i32_70 : BitVec 32 := 1#32
  let v74 : BitVec 32 := Scalar.muli v73 c1_i32_70
  let v75 : BitVec 32 := Scalar.addi c0_i32_71 v74
  v75.toNat
def k0_dev25 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v76 : BitVec 32 := Scalar.xori v2 c25_i32
  let c1_i32_73 : BitVec 32 := 1#32
  let v77 : BitVec 32 := Scalar.muli v76 c1_i32_73
  let v78 : BitVec 32 := Scalar.addi c0_i32_74 v77
  v78.toNat
def k0_dev26 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v79 : BitVec 32 := Scalar.xori v2 c26_i32
  let c1_i32_76 : BitVec 32 := 1#32
  let v80 : BitVec 32 := Scalar.muli v79 c1_i32_76
  let v81 : BitVec 32 := Scalar.addi c0_i32_77 v80
  v81.toNat
def k0_dev27 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v82 : BitVec 32 := Scalar.xori v2 c27_i32
  let c1_i32_79 : BitVec 32 := 1#32
  let v83 : BitVec 32 := Scalar.muli v82 c1_i32_79
  let v84 : BitVec 32 := Scalar.addi c0_i32_80 v83
  v84.toNat
def k0_dev28 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v85 : BitVec 32 := Scalar.xori v2 c28_i32
  let c1_i32_82 : BitVec 32 := 1#32
  let v86 : BitVec 32 := Scalar.muli v85 c1_i32_82
  let v87 : BitVec 32 := Scalar.addi c0_i32_83 v86
  v87.toNat
def k0_dev29 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v88 : BitVec 32 := Scalar.xori v2 c29_i32
  let c1_i32_85 : BitVec 32 := 1#32
  let v89 : BitVec 32 := Scalar.muli v88 c1_i32_85
  let v90 : BitVec 32 := Scalar.addi c0_i32_86 v89
  v90.toNat
def k0_dev30 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v91 : BitVec 32 := Scalar.xori v2 c30_i32
  let c1_i32_88 : BitVec 32 := 1#32
  let v92 : BitVec 32 := Scalar.muli v91 c1_i32_88
  let v93 : BitVec 32 := Scalar.addi c0_i32_89 v92
  v93.toNat
def k0_dev31 (d0 : Dev nD) : Nat :=
  let c0_i32_92 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v94 : BitVec 32 := Scalar.xori v2 c31_i32
  let c1_i32_91 : BitVec 32 := 1#32
  let v95 : BitVec 32 := Scalar.muli v94 c1_i32_91
  let v96 : BitVec 32 := Scalar.addi c0_i32_92 v95
  v96.toNat
def k0_off1 (d0 : Dev nD) (c1_i32_567 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v747 : BitVec 32 := Scalar.xori v2 c1_i32_567
  let c0_i32_576 : BitVec 32 := 0#32
  let c0_i32_577 : BitVec 32 := 0#32
  ![v747.toNat, 0, 0]
def k0_dev32 (d0 : Dev nD) : Nat :=
  let c0_i32_572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_568 : BitVec 32 := 1#32
  let v748 : BitVec 32 := Scalar.xori v2 c1_i32_568
  let c1_i32_571 : BitVec 32 := 1#32
  let v749 : BitVec 32 := Scalar.muli v748 c1_i32_571
  let v750 : BitVec 32 := Scalar.addi c0_i32_572 v749
  v750.toNat
def k0_dev33 (d0 : Dev nD) : Nat :=
  let c0_i32_583 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_579 : BitVec 32 := 2#32
  let v758 : BitVec 32 := Scalar.xori v2 c2_i32_579
  let c1_i32_582 : BitVec 32 := 1#32
  let v759 : BitVec 32 := Scalar.muli v758 c1_i32_582
  let v760 : BitVec 32 := Scalar.addi c0_i32_583 v759
  v760.toNat
def k0_dev34 (d0 : Dev nD) : Nat :=
  let c0_i32_594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_590 : BitVec 32 := 3#32
  let v768 : BitVec 32 := Scalar.xori v2 c3_i32_590
  let c1_i32_593 : BitVec 32 := 1#32
  let v769 : BitVec 32 := Scalar.muli v768 c1_i32_593
  let v770 : BitVec 32 := Scalar.addi c0_i32_594 v769
  v770.toNat
def k0_dev35 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_601 : BitVec 32 := 4#32
  let v778 : BitVec 32 := Scalar.xori v2 c4_i32_601
  let c1_i32_604 : BitVec 32 := 1#32
  let v779 : BitVec 32 := Scalar.muli v778 c1_i32_604
  let v780 : BitVec 32 := Scalar.addi c0_i32_605 v779
  v780.toNat
def k0_dev36 (d0 : Dev nD) : Nat :=
  let c0_i32_616 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_612 : BitVec 32 := 5#32
  let v788 : BitVec 32 := Scalar.xori v2 c5_i32_612
  let c1_i32_615 : BitVec 32 := 1#32
  let v789 : BitVec 32 := Scalar.muli v788 c1_i32_615
  let v790 : BitVec 32 := Scalar.addi c0_i32_616 v789
  v790.toNat
def k0_dev37 (d0 : Dev nD) : Nat :=
  let c0_i32_627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_623 : BitVec 32 := 6#32
  let v798 : BitVec 32 := Scalar.xori v2 c6_i32_623
  let c1_i32_626 : BitVec 32 := 1#32
  let v799 : BitVec 32 := Scalar.muli v798 c1_i32_626
  let v800 : BitVec 32 := Scalar.addi c0_i32_627 v799
  v800.toNat
def k0_dev38 (d0 : Dev nD) : Nat :=
  let c0_i32_638 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_634 : BitVec 32 := 7#32
  let v808 : BitVec 32 := Scalar.xori v2 c7_i32_634
  let c1_i32_637 : BitVec 32 := 1#32
  let v809 : BitVec 32 := Scalar.muli v808 c1_i32_637
  let v810 : BitVec 32 := Scalar.addi c0_i32_638 v809
  v810.toNat
def k0_dev39 (d0 : Dev nD) : Nat :=
  let c0_i32_649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_645 : BitVec 32 := 8#32
  let v818 : BitVec 32 := Scalar.xori v2 c8_i32_645
  let c1_i32_648 : BitVec 32 := 1#32
  let v819 : BitVec 32 := Scalar.muli v818 c1_i32_648
  let v820 : BitVec 32 := Scalar.addi c0_i32_649 v819
  v820.toNat
def k0_dev40 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_656 : BitVec 32 := 9#32
  let v828 : BitVec 32 := Scalar.xori v2 c9_i32_656
  let c1_i32_659 : BitVec 32 := 1#32
  let v829 : BitVec 32 := Scalar.muli v828 c1_i32_659
  let v830 : BitVec 32 := Scalar.addi c0_i32_660 v829
  v830.toNat
def k0_dev41 (d0 : Dev nD) : Nat :=
  let c0_i32_671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_667 : BitVec 32 := 10#32
  let v838 : BitVec 32 := Scalar.xori v2 c10_i32_667
  let c1_i32_670 : BitVec 32 := 1#32
  let v839 : BitVec 32 := Scalar.muli v838 c1_i32_670
  let v840 : BitVec 32 := Scalar.addi c0_i32_671 v839
  v840.toNat
def k0_dev42 (d0 : Dev nD) : Nat :=
  let c0_i32_682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_678 : BitVec 32 := 11#32
  let v848 : BitVec 32 := Scalar.xori v2 c11_i32_678
  let c1_i32_681 : BitVec 32 := 1#32
  let v849 : BitVec 32 := Scalar.muli v848 c1_i32_681
  let v850 : BitVec 32 := Scalar.addi c0_i32_682 v849
  v850.toNat
def k0_dev43 (d0 : Dev nD) : Nat :=
  let c0_i32_693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_689 : BitVec 32 := 12#32
  let v858 : BitVec 32 := Scalar.xori v2 c12_i32_689
  let c1_i32_692 : BitVec 32 := 1#32
  let v859 : BitVec 32 := Scalar.muli v858 c1_i32_692
  let v860 : BitVec 32 := Scalar.addi c0_i32_693 v859
  v860.toNat
def k0_dev44 (d0 : Dev nD) : Nat :=
  let c0_i32_704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_700 : BitVec 32 := 13#32
  let v868 : BitVec 32 := Scalar.xori v2 c13_i32_700
  let c1_i32_703 : BitVec 32 := 1#32
  let v869 : BitVec 32 := Scalar.muli v868 c1_i32_703
  let v870 : BitVec 32 := Scalar.addi c0_i32_704 v869
  v870.toNat
def k0_dev45 (d0 : Dev nD) : Nat :=
  let c0_i32_715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_711 : BitVec 32 := 14#32
  let v878 : BitVec 32 := Scalar.xori v2 c14_i32_711
  let c1_i32_714 : BitVec 32 := 1#32
  let v879 : BitVec 32 := Scalar.muli v878 c1_i32_714
  let v880 : BitVec 32 := Scalar.addi c0_i32_715 v879
  v880.toNat
def k0_dev46 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_722 : BitVec 32 := 15#32
  let v888 : BitVec 32 := Scalar.xori v2 c15_i32_722
  let c1_i32_725 : BitVec 32 := 1#32
  let v889 : BitVec 32 := Scalar.muli v888 c1_i32_725
  let v890 : BitVec 32 := Scalar.addi c0_i32_726 v889
  v890.toNat
def k0_dev47 (d0 : Dev nD) : Nat :=
  let c0_i32_737 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_733 : BitVec 32 := 16#32
  let v898 : BitVec 32 := Scalar.xori v2 c16_i32_733
  let c1_i32_736 : BitVec 32 := 1#32
  let v899 : BitVec 32 := Scalar.muli v898 c1_i32_736
  let v900 : BitVec 32 := Scalar.addi c0_i32_737 v899
  v900.toNat
def k0_dev48 (d0 : Dev nD) : Nat :=
  let c0_i32_748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_744 : BitVec 32 := 17#32
  let v908 : BitVec 32 := Scalar.xori v2 c17_i32_744
  let c1_i32_747 : BitVec 32 := 1#32
  let v909 : BitVec 32 := Scalar.muli v908 c1_i32_747
  let v910 : BitVec 32 := Scalar.addi c0_i32_748 v909
  v910.toNat
def k0_dev49 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_755 : BitVec 32 := 18#32
  let v918 : BitVec 32 := Scalar.xori v2 c18_i32_755
  let c1_i32_758 : BitVec 32 := 1#32
  let v919 : BitVec 32 := Scalar.muli v918 c1_i32_758
  let v920 : BitVec 32 := Scalar.addi c0_i32_759 v919
  v920.toNat
def k0_dev50 (d0 : Dev nD) : Nat :=
  let c0_i32_770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_766 : BitVec 32 := 19#32
  let v928 : BitVec 32 := Scalar.xori v2 c19_i32_766
  let c1_i32_769 : BitVec 32 := 1#32
  let v929 : BitVec 32 := Scalar.muli v928 c1_i32_769
  let v930 : BitVec 32 := Scalar.addi c0_i32_770 v929
  v930.toNat
def k0_dev51 (d0 : Dev nD) : Nat :=
  let c0_i32_781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_777 : BitVec 32 := 20#32
  let v938 : BitVec 32 := Scalar.xori v2 c20_i32_777
  let c1_i32_780 : BitVec 32 := 1#32
  let v939 : BitVec 32 := Scalar.muli v938 c1_i32_780
  let v940 : BitVec 32 := Scalar.addi c0_i32_781 v939
  v940.toNat
def k0_dev52 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_788 : BitVec 32 := 21#32
  let v948 : BitVec 32 := Scalar.xori v2 c21_i32_788
  let c1_i32_791 : BitVec 32 := 1#32
  let v949 : BitVec 32 := Scalar.muli v948 c1_i32_791
  let v950 : BitVec 32 := Scalar.addi c0_i32_792 v949
  v950.toNat
def k0_dev53 (d0 : Dev nD) : Nat :=
  let c0_i32_803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_799 : BitVec 32 := 22#32
  let v958 : BitVec 32 := Scalar.xori v2 c22_i32_799
  let c1_i32_802 : BitVec 32 := 1#32
  let v959 : BitVec 32 := Scalar.muli v958 c1_i32_802
  let v960 : BitVec 32 := Scalar.addi c0_i32_803 v959
  v960.toNat
def k0_dev54 (d0 : Dev nD) : Nat :=
  let c0_i32_814 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_810 : BitVec 32 := 23#32
  let v968 : BitVec 32 := Scalar.xori v2 c23_i32_810
  let c1_i32_813 : BitVec 32 := 1#32
  let v969 : BitVec 32 := Scalar.muli v968 c1_i32_813
  let v970 : BitVec 32 := Scalar.addi c0_i32_814 v969
  v970.toNat
def k0_dev55 (d0 : Dev nD) : Nat :=
  let c0_i32_825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_821 : BitVec 32 := 24#32
  let v978 : BitVec 32 := Scalar.xori v2 c24_i32_821
  let c1_i32_824 : BitVec 32 := 1#32
  let v979 : BitVec 32 := Scalar.muli v978 c1_i32_824
  let v980 : BitVec 32 := Scalar.addi c0_i32_825 v979
  v980.toNat
def k0_dev56 (d0 : Dev nD) : Nat :=
  let c0_i32_836 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_832 : BitVec 32 := 25#32
  let v988 : BitVec 32 := Scalar.xori v2 c25_i32_832
  let c1_i32_835 : BitVec 32 := 1#32
  let v989 : BitVec 32 := Scalar.muli v988 c1_i32_835
  let v990 : BitVec 32 := Scalar.addi c0_i32_836 v989
  v990.toNat
def k0_dev57 (d0 : Dev nD) : Nat :=
  let c0_i32_847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_843 : BitVec 32 := 26#32
  let v998 : BitVec 32 := Scalar.xori v2 c26_i32_843
  let c1_i32_846 : BitVec 32 := 1#32
  let v999 : BitVec 32 := Scalar.muli v998 c1_i32_846
  let v1000 : BitVec 32 := Scalar.addi c0_i32_847 v999
  v1000.toNat
def k0_dev58 (d0 : Dev nD) : Nat :=
  let c0_i32_858 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_854 : BitVec 32 := 27#32
  let v1008 : BitVec 32 := Scalar.xori v2 c27_i32_854
  let c1_i32_857 : BitVec 32 := 1#32
  let v1009 : BitVec 32 := Scalar.muli v1008 c1_i32_857
  let v1010 : BitVec 32 := Scalar.addi c0_i32_858 v1009
  v1010.toNat
def k0_dev59 (d0 : Dev nD) : Nat :=
  let c0_i32_869 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_865 : BitVec 32 := 28#32
  let v1018 : BitVec 32 := Scalar.xori v2 c28_i32_865
  let c1_i32_868 : BitVec 32 := 1#32
  let v1019 : BitVec 32 := Scalar.muli v1018 c1_i32_868
  let v1020 : BitVec 32 := Scalar.addi c0_i32_869 v1019
  v1020.toNat
def k0_dev60 (d0 : Dev nD) : Nat :=
  let c0_i32_880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_876 : BitVec 32 := 29#32
  let v1028 : BitVec 32 := Scalar.xori v2 c29_i32_876
  let c1_i32_879 : BitVec 32 := 1#32
  let v1029 : BitVec 32 := Scalar.muli v1028 c1_i32_879
  let v1030 : BitVec 32 := Scalar.addi c0_i32_880 v1029
  v1030.toNat
def k0_dev61 (d0 : Dev nD) : Nat :=
  let c0_i32_891 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_887 : BitVec 32 := 30#32
  let v1038 : BitVec 32 := Scalar.xori v2 c30_i32_887
  let c1_i32_890 : BitVec 32 := 1#32
  let v1039 : BitVec 32 := Scalar.muli v1038 c1_i32_890
  let v1040 : BitVec 32 := Scalar.addi c0_i32_891 v1039
  v1040.toNat
def k0_dev62 (d0 : Dev nD) : Nat :=
  let c0_i32_902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_898 : BitVec 32 := 31#32
  let v1048 : BitVec 32 := Scalar.xori v2 c31_i32_898
  let c1_i32_901 : BitVec 32 := 1#32
  let v1049 : BitVec 32 := Scalar.muli v1048 c1_i32_901
  let v1050 : BitVec 32 := Scalar.addi c0_i32_902 v1049
  v1050.toNat
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1243 : Index := Scalar.indexCast v2
  let c0_1187 : Index := 0#32
  let c0_1188 : Index := 0#32
  ![v1243.toNat, 0, 0]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1399 : Index := Scalar.indexCast v2
  let c0_1270 : Index := 0#32
  let c0_1271 : Index := 0#32
  ![v1399.toNat, 0, 0]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1277 : BitVec 32 := 0#32
  let c0_i32_1278 : BitVec 32 := 0#32
  ![v2.toNat, 0, 0]
def k0_dev63 (d0 : Dev nD) : Nat :=
  let c0_i32_1276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1272 : BitVec 32 := 1#32
  let v1403 : BitVec 32 := Scalar.xori v2 c1_i32_1272
  let c1_i32_1275 : BitVec 32 := 1#32
  let v1404 : BitVec 32 := Scalar.muli v1403 c1_i32_1275
  let v1405 : BitVec 32 := Scalar.addi c0_i32_1276 v1404
  v1405.toNat
def k0_dev64 (d0 : Dev nD) : Nat :=
  let c0_i32_1285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1281 : BitVec 32 := 2#32
  let v1412 : BitVec 32 := Scalar.xori v2 c2_i32_1281
  let c1_i32_1284 : BitVec 32 := 1#32
  let v1413 : BitVec 32 := Scalar.muli v1412 c1_i32_1284
  let v1414 : BitVec 32 := Scalar.addi c0_i32_1285 v1413
  v1414.toNat
def k0_dev65 (d0 : Dev nD) : Nat :=
  let c0_i32_1294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1290 : BitVec 32 := 3#32
  let v1421 : BitVec 32 := Scalar.xori v2 c3_i32_1290
  let c1_i32_1293 : BitVec 32 := 1#32
  let v1422 : BitVec 32 := Scalar.muli v1421 c1_i32_1293
  let v1423 : BitVec 32 := Scalar.addi c0_i32_1294 v1422
  v1423.toNat
def k0_dev66 (d0 : Dev nD) : Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1299 : BitVec 32 := 4#32
  let v1430 : BitVec 32 := Scalar.xori v2 c4_i32_1299
  let c1_i32_1302 : BitVec 32 := 1#32
  let v1431 : BitVec 32 := Scalar.muli v1430 c1_i32_1302
  let v1432 : BitVec 32 := Scalar.addi c0_i32_1303 v1431
  v1432.toNat
def k0_dev67 (d0 : Dev nD) : Nat :=
  let c0_i32_1312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1308 : BitVec 32 := 5#32
  let v1439 : BitVec 32 := Scalar.xori v2 c5_i32_1308
  let c1_i32_1311 : BitVec 32 := 1#32
  let v1440 : BitVec 32 := Scalar.muli v1439 c1_i32_1311
  let v1441 : BitVec 32 := Scalar.addi c0_i32_1312 v1440
  v1441.toNat
def k0_dev68 (d0 : Dev nD) : Nat :=
  let c0_i32_1321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1317 : BitVec 32 := 6#32
  let v1448 : BitVec 32 := Scalar.xori v2 c6_i32_1317
  let c1_i32_1320 : BitVec 32 := 1#32
  let v1449 : BitVec 32 := Scalar.muli v1448 c1_i32_1320
  let v1450 : BitVec 32 := Scalar.addi c0_i32_1321 v1449
  v1450.toNat
def k0_dev69 (d0 : Dev nD) : Nat :=
  let c0_i32_1330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1326 : BitVec 32 := 7#32
  let v1457 : BitVec 32 := Scalar.xori v2 c7_i32_1326
  let c1_i32_1329 : BitVec 32 := 1#32
  let v1458 : BitVec 32 := Scalar.muli v1457 c1_i32_1329
  let v1459 : BitVec 32 := Scalar.addi c0_i32_1330 v1458
  v1459.toNat
def k0_dev70 (d0 : Dev nD) : Nat :=
  let c0_i32_1339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1335 : BitVec 32 := 8#32
  let v1466 : BitVec 32 := Scalar.xori v2 c8_i32_1335
  let c1_i32_1338 : BitVec 32 := 1#32
  let v1467 : BitVec 32 := Scalar.muli v1466 c1_i32_1338
  let v1468 : BitVec 32 := Scalar.addi c0_i32_1339 v1467
  v1468.toNat
def k0_dev71 (d0 : Dev nD) : Nat :=
  let c0_i32_1348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1344 : BitVec 32 := 9#32
  let v1475 : BitVec 32 := Scalar.xori v2 c9_i32_1344
  let c1_i32_1347 : BitVec 32 := 1#32
  let v1476 : BitVec 32 := Scalar.muli v1475 c1_i32_1347
  let v1477 : BitVec 32 := Scalar.addi c0_i32_1348 v1476
  v1477.toNat
def k0_dev72 (d0 : Dev nD) : Nat :=
  let c0_i32_1357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1353 : BitVec 32 := 10#32
  let v1484 : BitVec 32 := Scalar.xori v2 c10_i32_1353
  let c1_i32_1356 : BitVec 32 := 1#32
  let v1485 : BitVec 32 := Scalar.muli v1484 c1_i32_1356
  let v1486 : BitVec 32 := Scalar.addi c0_i32_1357 v1485
  v1486.toNat
def k0_dev73 (d0 : Dev nD) : Nat :=
  let c0_i32_1366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1362 : BitVec 32 := 11#32
  let v1493 : BitVec 32 := Scalar.xori v2 c11_i32_1362
  let c1_i32_1365 : BitVec 32 := 1#32
  let v1494 : BitVec 32 := Scalar.muli v1493 c1_i32_1365
  let v1495 : BitVec 32 := Scalar.addi c0_i32_1366 v1494
  v1495.toNat
def k0_dev74 (d0 : Dev nD) : Nat :=
  let c0_i32_1375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1371 : BitVec 32 := 12#32
  let v1502 : BitVec 32 := Scalar.xori v2 c12_i32_1371
  let c1_i32_1374 : BitVec 32 := 1#32
  let v1503 : BitVec 32 := Scalar.muli v1502 c1_i32_1374
  let v1504 : BitVec 32 := Scalar.addi c0_i32_1375 v1503
  v1504.toNat
def k0_dev75 (d0 : Dev nD) : Nat :=
  let c0_i32_1384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1380 : BitVec 32 := 13#32
  let v1511 : BitVec 32 := Scalar.xori v2 c13_i32_1380
  let c1_i32_1383 : BitVec 32 := 1#32
  let v1512 : BitVec 32 := Scalar.muli v1511 c1_i32_1383
  let v1513 : BitVec 32 := Scalar.addi c0_i32_1384 v1512
  v1513.toNat
def k0_dev76 (d0 : Dev nD) : Nat :=
  let c0_i32_1393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1389 : BitVec 32 := 14#32
  let v1520 : BitVec 32 := Scalar.xori v2 c14_i32_1389
  let c1_i32_1392 : BitVec 32 := 1#32
  let v1521 : BitVec 32 := Scalar.muli v1520 c1_i32_1392
  let v1522 : BitVec 32 := Scalar.addi c0_i32_1393 v1521
  v1522.toNat
def k0_dev77 (d0 : Dev nD) : Nat :=
  let c0_i32_1402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1398 : BitVec 32 := 15#32
  let v1529 : BitVec 32 := Scalar.xori v2 c15_i32_1398
  let c1_i32_1401 : BitVec 32 := 1#32
  let v1530 : BitVec 32 := Scalar.muli v1529 c1_i32_1401
  let v1531 : BitVec 32 := Scalar.addi c0_i32_1402 v1530
  v1531.toNat
def k0_dev78 (d0 : Dev nD) : Nat :=
  let c0_i32_1411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1407 : BitVec 32 := 16#32
  let v1538 : BitVec 32 := Scalar.xori v2 c16_i32_1407
  let c1_i32_1410 : BitVec 32 := 1#32
  let v1539 : BitVec 32 := Scalar.muli v1538 c1_i32_1410
  let v1540 : BitVec 32 := Scalar.addi c0_i32_1411 v1539
  v1540.toNat
def k0_dev79 (d0 : Dev nD) : Nat :=
  let c0_i32_1420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1416 : BitVec 32 := 17#32
  let v1547 : BitVec 32 := Scalar.xori v2 c17_i32_1416
  let c1_i32_1419 : BitVec 32 := 1#32
  let v1548 : BitVec 32 := Scalar.muli v1547 c1_i32_1419
  let v1549 : BitVec 32 := Scalar.addi c0_i32_1420 v1548
  v1549.toNat
def k0_dev80 (d0 : Dev nD) : Nat :=
  let c0_i32_1429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1425 : BitVec 32 := 18#32
  let v1556 : BitVec 32 := Scalar.xori v2 c18_i32_1425
  let c1_i32_1428 : BitVec 32 := 1#32
  let v1557 : BitVec 32 := Scalar.muli v1556 c1_i32_1428
  let v1558 : BitVec 32 := Scalar.addi c0_i32_1429 v1557
  v1558.toNat
def k0_dev81 (d0 : Dev nD) : Nat :=
  let c0_i32_1438 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1434 : BitVec 32 := 19#32
  let v1565 : BitVec 32 := Scalar.xori v2 c19_i32_1434
  let c1_i32_1437 : BitVec 32 := 1#32
  let v1566 : BitVec 32 := Scalar.muli v1565 c1_i32_1437
  let v1567 : BitVec 32 := Scalar.addi c0_i32_1438 v1566
  v1567.toNat
def k0_dev82 (d0 : Dev nD) : Nat :=
  let c0_i32_1447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1443 : BitVec 32 := 20#32
  let v1574 : BitVec 32 := Scalar.xori v2 c20_i32_1443
  let c1_i32_1446 : BitVec 32 := 1#32
  let v1575 : BitVec 32 := Scalar.muli v1574 c1_i32_1446
  let v1576 : BitVec 32 := Scalar.addi c0_i32_1447 v1575
  v1576.toNat
def k0_dev83 (d0 : Dev nD) : Nat :=
  let c0_i32_1456 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1452 : BitVec 32 := 21#32
  let v1583 : BitVec 32 := Scalar.xori v2 c21_i32_1452
  let c1_i32_1455 : BitVec 32 := 1#32
  let v1584 : BitVec 32 := Scalar.muli v1583 c1_i32_1455
  let v1585 : BitVec 32 := Scalar.addi c0_i32_1456 v1584
  v1585.toNat
def k0_dev84 (d0 : Dev nD) : Nat :=
  let c0_i32_1465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1461 : BitVec 32 := 22#32
  let v1592 : BitVec 32 := Scalar.xori v2 c22_i32_1461
  let c1_i32_1464 : BitVec 32 := 1#32
  let v1593 : BitVec 32 := Scalar.muli v1592 c1_i32_1464
  let v1594 : BitVec 32 := Scalar.addi c0_i32_1465 v1593
  v1594.toNat
def k0_dev85 (d0 : Dev nD) : Nat :=
  let c0_i32_1474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1470 : BitVec 32 := 23#32
  let v1601 : BitVec 32 := Scalar.xori v2 c23_i32_1470
  let c1_i32_1473 : BitVec 32 := 1#32
  let v1602 : BitVec 32 := Scalar.muli v1601 c1_i32_1473
  let v1603 : BitVec 32 := Scalar.addi c0_i32_1474 v1602
  v1603.toNat
def k0_dev86 (d0 : Dev nD) : Nat :=
  let c0_i32_1483 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1479 : BitVec 32 := 24#32
  let v1610 : BitVec 32 := Scalar.xori v2 c24_i32_1479
  let c1_i32_1482 : BitVec 32 := 1#32
  let v1611 : BitVec 32 := Scalar.muli v1610 c1_i32_1482
  let v1612 : BitVec 32 := Scalar.addi c0_i32_1483 v1611
  v1612.toNat
def k0_dev87 (d0 : Dev nD) : Nat :=
  let c0_i32_1492 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1488 : BitVec 32 := 25#32
  let v1619 : BitVec 32 := Scalar.xori v2 c25_i32_1488
  let c1_i32_1491 : BitVec 32 := 1#32
  let v1620 : BitVec 32 := Scalar.muli v1619 c1_i32_1491
  let v1621 : BitVec 32 := Scalar.addi c0_i32_1492 v1620
  v1621.toNat
def k0_dev88 (d0 : Dev nD) : Nat :=
  let c0_i32_1501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1497 : BitVec 32 := 26#32
  let v1628 : BitVec 32 := Scalar.xori v2 c26_i32_1497
  let c1_i32_1500 : BitVec 32 := 1#32
  let v1629 : BitVec 32 := Scalar.muli v1628 c1_i32_1500
  let v1630 : BitVec 32 := Scalar.addi c0_i32_1501 v1629
  v1630.toNat
def k0_dev89 (d0 : Dev nD) : Nat :=
  let c0_i32_1510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1506 : BitVec 32 := 27#32
  let v1637 : BitVec 32 := Scalar.xori v2 c27_i32_1506
  let c1_i32_1509 : BitVec 32 := 1#32
  let v1638 : BitVec 32 := Scalar.muli v1637 c1_i32_1509
  let v1639 : BitVec 32 := Scalar.addi c0_i32_1510 v1638
  v1639.toNat
def k0_dev90 (d0 : Dev nD) : Nat :=
  let c0_i32_1519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1515 : BitVec 32 := 28#32
  let v1646 : BitVec 32 := Scalar.xori v2 c28_i32_1515
  let c1_i32_1518 : BitVec 32 := 1#32
  let v1647 : BitVec 32 := Scalar.muli v1646 c1_i32_1518
  let v1648 : BitVec 32 := Scalar.addi c0_i32_1519 v1647
  v1648.toNat
def k0_dev91 (d0 : Dev nD) : Nat :=
  let c0_i32_1528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1524 : BitVec 32 := 29#32
  let v1655 : BitVec 32 := Scalar.xori v2 c29_i32_1524
  let c1_i32_1527 : BitVec 32 := 1#32
  let v1656 : BitVec 32 := Scalar.muli v1655 c1_i32_1527
  let v1657 : BitVec 32 := Scalar.addi c0_i32_1528 v1656
  v1657.toNat
def k0_dev92 (d0 : Dev nD) : Nat :=
  let c0_i32_1537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1533 : BitVec 32 := 30#32
  let v1664 : BitVec 32 := Scalar.xori v2 c30_i32_1533
  let c1_i32_1536 : BitVec 32 := 1#32
  let v1665 : BitVec 32 := Scalar.muli v1664 c1_i32_1536
  let v1666 : BitVec 32 := Scalar.addi c0_i32_1537 v1665
  v1666.toNat
def k0_dev93 (d0 : Dev nD) : Nat :=
  let c0_i32_1546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1542 : BitVec 32 := 31#32
  let v1673 : BitVec 32 := Scalar.xori v2 c31_i32_1542
  let c1_i32_1545 : BitVec 32 := 1#32
  let v1674 : BitVec 32 := Scalar.muli v1673 c1_i32_1545
  let v1675 : BitVec 32 := Scalar.addi c0_i32_1546 v1674
  v1675.toNat
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x768 : Shape := ⟨3, ![2, 256, 768]⟩
abbrev S768x512 : Shape := ⟨2, ![768, 512]⟩
abbrev S512x768 : Shape := ⟨2, ![512, 768]⟩
abbrev S2x16384x2x64 : Shape := ⟨4, ![2, 16384, 2, 64]⟩
abbrev S2x256x512 : Shape := ⟨3, ![2, 256, 512]⟩
abbrev S2x256x8x64 : Shape := ⟨4, ![2, 256, 8, 64]⟩
abbrev S2x16384x2x4x64 : Shape := ⟨5, ![2, 16384, 2, 4, 64]⟩
abbrev S2x16384x8x64 : Shape := ⟨4, ![2, 16384, 8, 64]⟩
abbrev S2x8x256x16384 : Shape := ⟨4, ![2, 8, 256, 16384]⟩
abbrev S_ : Shape := ⟨0, ![]⟩
abbrev S2x8x256 : Shape := ⟨3, ![2, 8, 256]⟩
abbrev S2x8x256x1 : Shape := ⟨4, ![2, 8, 256, 1]⟩
abbrev S2x8x256x64 : Shape := ⟨4, ![2, 8, 256, 64]⟩

abbrev nBuf : Space → Nat
  | .hbm => 30
  | .vmem => 0
  | .smem => 0
  | _ => 0

abbrev bufTy : (tb : Table) → Fin (tcTables nBuf tb) → BufTy
  | .hbm, ⟨0, _⟩ => ⟨S2x256x768, .f32⟩
  | .hbm, ⟨1, _⟩ => ⟨S768x512, .f32⟩
  | .hbm, ⟨2, _⟩ => ⟨S512x768, .f32⟩
  | .hbm, ⟨3, _⟩ => ⟨S2x16384x2x64, .f32⟩
  | .hbm, ⟨4, _⟩ => ⟨S2x16384x2x64, .f32⟩
  | .hbm, ⟨5, _⟩ => ⟨S2x256x512, .f32⟩
  | .hbm, ⟨6, _⟩ => ⟨S2x256x8x64, .f32⟩
  | .hbm, ⟨7, _⟩ => ⟨S2x16384x2x4x64, .f32⟩
  | .hbm, ⟨8, _⟩ => ⟨S2x16384x8x64, .f32⟩
  | .hbm, ⟨9, _⟩ => ⟨S2x16384x2x4x64, .f32⟩
  | .hbm, ⟨10, _⟩ => ⟨S2x16384x8x64, .f32⟩
  | .hbm, ⟨11, _⟩ => ⟨S2x8x256x16384, .f32⟩
  | .hbm, ⟨12, _⟩ => ⟨S_, .f32⟩
  | .hbm, ⟨13, _⟩ => ⟨S2x8x256x16384, .f32⟩
  | .hbm, ⟨14, _⟩ => ⟨S2x8x256x16384, .f32⟩
  | .hbm, ⟨15, _⟩ => ⟨S_, .f32⟩
  | .hbm, ⟨16, _⟩ => ⟨S2x8x256, .f32⟩
  | .hbm, ⟨17, _⟩ => ⟨S2x8x256x1, .f32⟩
  | .hbm, ⟨18, _⟩ => ⟨S2x8x256x16384, .f32⟩
  | .hbm, ⟨19, _⟩ => ⟨S2x8x256x16384, .f32⟩
  | .hbm, ⟨20, _⟩ => ⟨S2x8x256x16384, .f32⟩
  | .hbm, ⟨21, _⟩ => ⟨S2x8x256x64, .f32⟩
  | .hbm, ⟨22, _⟩ => ⟨S_, .f32⟩
  | .hbm, ⟨23, _⟩ => ⟨S2x8x256, .f32⟩
  | .hbm, ⟨24, _⟩ => ⟨S2x8x256x1, .f32⟩
  | .hbm, ⟨25, _⟩ => ⟨S2x8x256x64, .f32⟩
  | .hbm, ⟨26, _⟩ => ⟨S2x8x256x64, .f32⟩
  | .hbm, ⟨27, _⟩ => ⟨S2x256x8x64, .f32⟩
  | .hbm, ⟨28, _⟩ => ⟨S2x256x512, .f32⟩
  | .hbm, ⟨29, _⟩ => ⟨S2x256x768, .f32⟩
  | _, _ => ⟨S2x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Struct.lean ====
/- The kernel's body written again as loops over the devices, the heads and the halves of the
   queries, and the proof that this is the printed body: unrolling the loops gives the printed
   sequence of operations word for word. -/
module

public import proofs.«01_k».proof.Proof.Gen.KernelIdeal

@[expose] public section

set_option maxRecDepth 16384

noncomputable section

namespace Cert.KernelIdeal.Att

open Idealize.ShloMosaic Idealize.SL.Sem
open Cert.KernelIdeal Cert.KernelIdeal.Gen

universe u

/-- Run `f 0`, `f 1`, … in turn. -/
def rep {E : Type → Type} : (n : Nat) → (Fin n → Prog E PUnit) → Prog E PUnit
  | 0, _ => pure ⟨⟩
  | n + 1, f => do f 0; rep n (fun i => f i.succ)

/-- Run `f 0`, `f 1`, … in turn, each on the value that the one before it returned. -/
def repAcc {E : Type → Type} {α : Type} : (n : Nat) → (Fin n → α → Prog E α) → α → Prog E α
  | 0, _, a => pure a
  | n + 1, f, a => do
    let a' ← f 0 a
    repAcc n (fun i => f i.succ) a'

variable {F : FTy → Type} [FloatOps F]

/-- The programs of the kernel's core. -/
abbrev KProg (α : Type) := Prog (TpuEff nD τ sig (Elt F) Λ₀ .tc) α

/-! ### The devices -/

/-- The device's own number, as the kernel computes it. -/
def myW (d : Dev nD) : BitVec 32 := Scalar.remsi (Scalar.divsi (Dev.word d) 1#32) 32#32

/-- The number of the peer at distance `t + 1`, as the kernel computes it. -/
def peerW (d : Dev nD) (t : Fin 31) : Nat :=
  (Scalar.addi 0#32 (Scalar.muli (Scalar.xori (myW d) (BitVec.ofNat 32 (1 + t.val))) 1#32)).toNat

theorem peerW_lt : ∀ (d : Dev nD) (t : Fin 31), peerW d t < nD := by decide +kernel

/-- The peer at distance `t + 1`: the device whose number differs in the bits of `t + 1`. -/
def peer (d : Dev nD) (t : Fin 31) : Dev nD := ⟨peerW d t, peerW_lt d t⟩

/-- A device's number as a piece number. -/
def me (d : Dev nD) : Fin 32 := ⟨d.val, d.isLt⟩

/-! ### The accesses -/

theorem inb_t : ∀ t : Fin 31, ∀ a, (![t.val] : Fin 1 → Nat) a + S1.size a ≤ S31.size a := by decide
theorem inb_p : ∀ p : Fin 32, ∀ a, (![p.val, 0, 0] : Fin 3 → Nat) a + S1x72x128.size a ≤ S32x72x128.size a := by decide
theorem inb_b : ∀ p : Fin 32, ∀ a, (![p.val, 0, 0] : Fin 3 → Nat) a + S1x66x128.size a ≤ S32x72x128.size a := by decide
theorem inb_x : ∀ b : Fin 2, ∀ a, (![b.val, 0, 0] : Fin 3 → Nat) a + S1x256x768.size a ≤ S2x256x768.size a := by decide
theorem inb_kv : ∀ (b : Fin 2) (h : Fin 8), ∀ a, (![b.val, 0, h.val / 4, 0] : Fin 4 → Nat) a + S1x512x1x64.size a ≤ S2x512x2x64.size a := by decide
theorem inb_wo : ∀ h : Fin 8, ∀ a, (![64 * h.val, 0] : Fin 2 → Nat) a + S64x768.size a ≤ S512x768.size a := by decide
theorem slices_q : ∀ h : Fin 8, S256x512.Slices ![0, 64 * h.val] S256x64 := by decide
theorem slices_jo : ∀ j : Fin 2, S64x256.Slices ![0, 128 * j.val] S64x128 := by decide
theorem slices_j1 : ∀ j : Fin 2, S1x256.Slices ![0, 128 * j.val] S1x128 := by decide

/-- The piece that holds half `j` of the queries of batch row `b` and head `h`. -/
abbrev pcOf (b : Fin 2) (h : Fin 8) (j : Fin 2) : Fin 32 := ⟨2 * (8 * b.val + h.val) + j.val, by omega⟩
/-- A slot number as a piece number. -/
abbrev slot (t : Fin 31) : Fin 32 := t.castSucc

/-- The semaphore of slot `t` of an array of 31. -/
abbrev semAt (s : DmaSems sig S31) (t : Fin 31) : DmaSem sig :=
  ((s.slice (Rect.unit (s := S31) ![t.val] S1.size (inb_t t))).squeeze S_ squeezes_S1_S_).sem

/-! ### The values a head computes

  For one batch row: `qb` the queries, `k` and `v` the keys and values of the head's group on this
  device. Keys run down the rows, queries along the columns. -/

/-- The queries of a batch row: the row times the projection. -/
def queries (xb : Vec F S1x256x768 .f32) (wq : Vec F S768x512 .f32) : FVec F S256x512 .f32 :=
  matmul dot_S256x768_S768x512_S256x512_1_0_0_1_n_n none (shapeCast S256x768 xb shapeCasts_S1x256x768_S256x768)
    (shapeCast S768x512 wq shapeCasts_S768x512_S768x512) (constant S256x512 .f32 0x00000000#32)

/-- The scaled scores of head `h`. -/
def scores (qb : FVec F S256x512 .f32) (k : Vec F S1x512x1x64 .f32) (h : Fin 8) : FVec F S512x256 .f32 :=
  mulf (matmul dot_S512x64_S256x64_S512x256_1_1_0_0_n_n none (shapeCast S512x64 k shapeCasts_S1x512x1x64_S512x64)
      (extractStridedSlice S256x64 ![0, 64 * h.val] qb (slices_q h)) (constant S512x256 .f32 0x00000000#32))
    (broadcast S512x256 (Scalar.ofBits .f32 0x3E000000#32))

/-- Per query the largest score among the device's keys. -/
def hMax (qb : FVec F S256x512 .f32) (k : Vec F S1x512x1x64 .f32) (h : Fin 8) : FVec F S1x256 .f32 :=
  shapeCast S1x256 (multiReduction .maximumf [0] S256 (scores qb k h) 0xFF800000#32 reduces_S512x256_S256 (.inl rfl) rfl)
    shapeCasts_S256_S1x256

/-- The weights relative to that largest score. -/
def hExp (qb : FVec F S256x512 .f32) (k : Vec F S1x512x1x64 .f32) (h : Fin 8) : FVec F S512x256 .f32 :=
  exp (subf (scores qb k h) (broadcastTo S512x256 (hMax qb k h) broadcasts_S1x256_S512x256))

/-- Per query the sum of the weights. -/
def hSum (qb : FVec F S256x512 .f32) (k : Vec F S1x512x1x64 .f32) (h : Fin 8) : FVec F S1x256 .f32 :=
  shapeCast S1x256 (multiReduction .add [0] S256 (hExp qb k h) 0x00000000#32 reduces_S512x256_S256 (.inl rfl) rfl)
    shapeCasts_S256_S1x256

/-- Per query the values summed by the weights. -/
def hOut (qb : FVec F S256x512 .f32) (k v : Vec F S1x512x1x64 .f32) (h : Fin 8) : FVec F S64x256 .f32 :=
  matmul dot_S512x64_S512x256_S64x256_0_0_1_1_n_n none (shapeCast S512x64 v shapeCasts_S1x512x1x64_S512x64)
    (hExp qb k h) (constant S64x256 .f32 0x00000000#32)

/-- Half `j` of the queries of a row of sums of values, as it is stored; -/
def halfO (o : FVec F S64x256 .f32) (j : Fin 2) : FVec F S1x64x128 .f32 :=
  shapeCast S1x64x128 (extractStridedSlice S64x128 ![0, 128 * j.val] o (slices_jo j)) shapeCasts_S64x128_S1x64x128
/-- and of a row of maxima or of sums. -/
def half1 (m : FVec F S1x256 .f32) (j : Fin 2) : FVec F S1x1x128 .f32 :=
  shapeCast S1x1x128 (extractStridedSlice S1x128 ![0, 128 * j.val] m (slices_j1 j)) shapeCasts_S1x128_S1x1x128

/-! ### The values of one combining step

  `A` and `R` are two stacks of partial results over disjoint sets of keys. -/

/-- A stack of `L` pieces, of `L` blocks of weighted values, of `L` single rows. -/
abbrev SP (L : Nat) : Shape := ⟨3, ![L, 72, 128]⟩
abbrev SO (L : Nat) : Shape := ⟨3, ![L, 64, 128]⟩
abbrev S1r (L : Nat) : Shape := ⟨3, ![L, 1, 128]⟩

theorem slices_cm (L : Nat) : (SP L).Slices ![0, 64, 0] (S1r L) := ⟨rfl, fun a => by fin_cases a <;> simp [SP, S1r]⟩
theorem slices_cl (L : Nat) : (SP L).Slices ![0, 65, 0] (S1r L) := ⟨rfl, fun a => by fin_cases a <;> simp [SP, S1r]⟩
theorem slices_co (L : Nat) : (SP L).Slices ![0, 0, 0] (SO L) := ⟨rfl, fun a => by fin_cases a <;> simp [SP, SO]⟩
theorem broadcasts_c (L : Nat) : (S1r L).Broadcasts (SO L) :=
  ⟨le_refl _, fun a => by fin_cases a; exacts [.inr fun _ => rfl, .inl rfl, .inr fun _ => rfl]⟩
theorem inb_c (n o L r : Nat) (h : o + L ≤ 32) (hr : n + r ≤ 72) :
    ∀ a, (![o, n, 0] : Fin 3 → Nat) a + (⟨3, ![L, r, 128]⟩ : Shape).size a ≤ S32x72x128.size a :=
  fun a => by fin_cases a <;> simp [S32x72x128, h, hr]
theorem numel_c (L r : Nat) (h : 0 < L) (hr : 0 < r) : 0 < (⟨3, ![L, r, 128]⟩ : Shape).numel :=
  Shape.numel_pos fun a => by fin_cases a <;> simp [h, hr]

/-- The larger maxima; -/
def cMax {L : Nat} (A R : Vec F (SP L) .f32) : FVec F (S1r L) .f32 :=
  maximumf (extractStridedSlice (S1r L) ![0, 64, 0] A (slices_cm L)) (extractStridedSlice (S1r L) ![0, 64, 0] R (slices_cm L))
/-- the factors that bring the results of either stack to them; -/
def cFac {L : Nat} (A R X : Vec F (SP L) .f32) : FVec F (S1r L) .f32 :=
  exp (subf (extractStridedSlice (S1r L) ![0, 64, 0] X (slices_cm L)) (cMax A R))
/-- the combined sums of values; -/
def cOut {L : Nat} (A R : Vec F (SP L) .f32) : FVec F (SO L) .f32 :=
  addf (mulf (extractStridedSlice (SO L) ![0, 0, 0] A (slices_co L)) (broadcastTo (SO L) (cFac A R A) (broadcasts_c L)))
    (mulf (extractStridedSlice (SO L) ![0, 0, 0] R (slices_co L)) (broadcastTo (SO L) (cFac A R R) (broadcasts_c L)))
/-- and the combined sums of weights. -/
def cSum {L : Nat} (A R : Vec F (SP L) .f32) : FVec F (S1r L) .f32 :=
  addf (mulf (extractStridedSlice (S1r L) ![0, 65, 0] A (slices_cl L)) (cFac A R A))
    (mulf (extractStridedSlice (S1r L) ![0, 65, 0] R (slices_cl L)) (cFac A R R))

/-- A product of one head's normalised values with its rows of the output projection, added on. -/
def outStep (acc : FVec F S256x768 .f32) (o0 o1 : Vec F S1x64x128 .f32) (l0 l1 : Vec F S1x1x128 .f32)
    (w : Vec F S64x768 .f32) : FVec F S256x768 .f32 :=
  addf acc (matmul dot_S64x256_S64x768_S256x768_0_0_1_1_n_n none
    (divf
      (concatenate S64x256 1 [⟨S64x128, shapeCast S64x128 o0 shapeCasts_S1x64x128_S64x128⟩, ⟨S64x128, shapeCast S64x128 o1 shapeCasts_S1x64x128_S64x128⟩]
        concatenates_S64x128_S64x128_S64x256_d1)
      (broadcastTo S64x256
        (concatenate S1x256 1 [⟨S1x128, shapeCast S1x128 l0 shapeCasts_S1x1x128_S1x128⟩, ⟨S1x128, shapeCast S1x128 l1 shapeCasts_S1x1x128_S1x128⟩]
          concatenates_S1x128_S1x128_S1x256_d1) broadcasts_S1x256_S64x256))
    (shapeCast S64x768 w shapeCasts_S64x768_S64x768) (constant S256x768 .f32 0x00000000#32))

/-! ### The body -/

section Body
variable (x : Memref sig .tc .vmem S2x256x768 .f32) (wq : Memref sig .tc .vmem S768x512 .f32) (wo : Memref sig .tc .vmem S512x768 .f32)
  (kk vv : Memref sig .tc .vmem S2x512x2x64 .f32) (o : Memref sig .tc .vmem S2x256x768 .f32)
  (sb rb : Memref sig .tc .vmem S32x72x128 .f32) (s8 s9 s10 s11 : DmaSems sig S31)

/-- Read and throw away, then overwrite. -/
def put {s : Shape} (m : Memref sig .tc .vmem s .f32) (r : Rect s) (h : 0 < r.shape.numel)
    (v : FVec F r.shape .f32) : KProg (F := F) PUnit := do
  let _ ← Prog.lift (.load m r.toLoadRect (View.loadsAt_vmem h))
  Prog.lift (.store m r v Finset.univ (View.stores_vmem_bits_univ h rfl) (.inl rfl))

/-- Rows `n` to `n + r` of the pieces `o` to `o + L`. -/
abbrev rC (n o L r : Nat) (h : o + L ≤ 32) (hr : n + r ≤ 72) : Rect S32x72x128 :=
  Rect.unit (s := S32x72x128) ![o, n, 0] (⟨3, ![L, r, 128]⟩ : Shape).size (inb_c n o L r h hr)
/-- Piece `p`: all its rows, its rows of weighted values, its row of sums. -/
abbrev rP (p : Fin 32) : Rect S32x72x128 := Rect.unit (s := S32x72x128) ![p.val, 0, 0] S1x72x128.size (inb_p p)
abbrev rO (p : Fin 32) : Rect S32x72x128 := rC 0 p.val 1 64 p.isLt (by decide)
abbrev rL (p : Fin 32) : Rect S32x72x128 := rC 65 p.val 1 1 p.isLt (by decide)
/-- Overwrite the rows of values, of maxima and of sums of the pieces `o` to `o + L`. -/
def put3 (m : Memref sig .tc .vmem S32x72x128 .f32) (o L : Nat) (hL : 0 < L) (h : o + L ≤ 32) (vo : FVec F (SO L) .f32)
    (vm vl : FVec F (S1r L) .f32) : KProg (F := F) PUnit := do
  put m (rC 0 o L 64 h (by decide)) (numel_c L 64 hL (by decide)) vo
  put m (rC 64 o L 1 h (by decide)) (numel_c L 1 hL (by decide)) vm
  put m (rC 65 o L 1 h (by decide)) (numel_c L 1 hL (by decide)) vl
/-- Tell the peer at distance `t + 1` that this device is there. -/
def hello (d : Dev nD) (t : Fin 31) : KProg (F := F) PUnit :=
  semSignalWord (peer d t) (SemArray.scalar (sig.barrier 0 rfl) : Sems sig S_).sem 1#32

/-- Half `j` of head `h`'s results, into its piece. -/
def storeHalf (b : Fin 2) (h : Fin 8) (qb : FVec F S256x512 .f32) (k v : Vec F S1x512x1x64 .f32) (j : Fin 2) :
    KProg (F := F) PUnit := do
  put3 sb (pcOf b h j).val 1 (by decide) (pcOf b h j).isLt (halfO (hOut qb k v h) j) (half1 (hMax qb k h) j) (half1 (hSum qb k h) j)

/-- One head of one batch row. -/
def headStep (b : Fin 2) (qb : FVec F S256x512 .f32) (h : Fin 8) : KProg (F := F) PUnit := do
  let k ← Prog.lift (.load kk (Rect.unit (s := S2x512x2x64) ![b.val, 0, h.val / 4, 0] S1x512x1x64.size (inb_kv b h)).toLoadRect (View.loadsAt_vmem h_S1x512x1x64))
  let v ← Prog.lift (.load vv (Rect.unit (s := S2x512x2x64) ![b.val, 0, h.val / 4, 0] S1x512x1x64.size (inb_kv b h)).toLoadRect (View.loadsAt_vmem h_S1x512x1x64))
  rep 2 (storeHalf sb b h qb k v)

/-- One batch row: its queries, then its heads. -/
def batchStep (b : Fin 2) : KProg (F := F) PUnit := do
  let xb ← Prog.lift (.load x (Rect.unit (s := S2x256x768) ![b.val, 0, 0] S1x256x768.size (inb_x b)).toLoadRect (View.loadsAt_vmem h_S1x256x768))
  let w ← Prog.lift (.load wq (Rect.unit (s := S768x512) ![0, 0] S768x512.size inb_S768x512_S768x512_0_0).toLoadRect (View.loadsAt_vmem h_S768x512))
  rep 8 (headStep kk vv sb b (queries xb w))

/-- Send the peer at distance `t + 1` its piece, the one at offset `off`. -/
def scatterAt (off : Fin 3 → Nat) (hi : ∀ a, off a + S1x72x128.size a ≤ S32x72x128.size a) (d : Dev nD) (t : Fin 31) : KProg (F := F) PUnit :=
  Prog.lift (.enqueueDma (sb.slice (Rect.unit (s := S32x72x128) off S1x72x128.size hi) (fun _ => rfl))
    (.remote (Dev.tc (peer d t)) (rb.slice (rP (slot t)) (fun _ => rfl)) (.dma (semAt s8 t))) (.dma (semAt s9 t))
    (View.wordExact_bits rfl) (View.wordExact_bits rfl) ⟨⟨rfl, Or.inl rfl⟩, trivial⟩)
/-- Wait until slot `t` has landed. -/
def gotPart (off : Fin 3 → Nat) (hi : ∀ a, off a + S1x72x128.size a ≤ S32x72x128.size a) (t : Fin 31) : KProg (F := F) PUnit :=
  Prog.lift (.waitDma2 (semAt s9 t) (sb.slice (Rect.unit (s := S32x72x128) off S1x72x128.size hi) (fun _ => rfl)) (rb.slice (rP (slot t)) (fun _ => rfl))
    (View.wordExact_bits rfl) (View.wordExact_bits rfl))

/-- The device's own piece, at offset `off`, into the last slot. -/
def ownSlotAt (off : Fin 3 → Nat) (hi : ∀ a, off a + S1x72x128.size a ≤ S32x72x128.size a) : KProg (F := F) PUnit := do
  let w ← Prog.lift (.load sb (Rect.unit (s := S32x72x128) off S1x72x128.size hi).toLoadRect (View.loadsAt_vmem h_S1x72x128))
  put rb (rP 31) h_S1x72x128 (shapeCast S1x72x128 w shapeCasts_S1x72x128_S1x72x128)

/-- The upper `L` of `2 L` slots combined into the lower ones. -/
def treeStep (L : Nat) (hL : 0 < L) (h : L + L ≤ 32) : KProg (F := F) PUnit := do
  let A ← Prog.lift (.load rb (rC 0 0 L 72 (by omega) (by omega)).toLoadRect (View.loadsAt_vmem (numel_c L 72 hL (by omega))))
  let R ← Prog.lift (.load rb (rC 0 L L 72 h (by omega)).toLoadRect (View.loadsAt_vmem (numel_c L 72 hL (by omega))))
  put3 rb 0 L hL (by omega) (shapeCast (SO L) (cOut (L := L) A R) rfl) (shapeCast (S1r L) (cMax (L := L) A R) rfl)
    (shapeCast (S1r L) (cSum (L := L) A R) rfl)

/-- The combined piece back to where it came from. -/
def putBackAt (off : Fin 3 → Nat) (hi : ∀ a, off a + S1x66x128.size a ≤ S32x72x128.size a) : KProg (F := F) PUnit := do
  let w ← Prog.lift (.load rb (rC 0 0 1 66 (by decide) (by decide)).toLoadRect (View.loadsAt_vmem h_S1x66x128))
  put sb (Rect.unit (s := S32x72x128) off S1x66x128.size hi) h_S1x66x128 (shapeCast S1x66x128 w shapeCasts_S1x66x128_S1x66x128)

/-- Send the peer at distance `t + 1` the combined piece, the one at offset `off`. -/
def gatherAt (off : Fin 3 → Nat) (hi : ∀ a, off a + S1x72x128.size a ≤ S32x72x128.size a) (d : Dev nD) (t : Fin 31) : KProg (F := F) PUnit :=
  Prog.lift (.enqueueDma (sb.slice (Rect.unit (s := S32x72x128) off S1x72x128.size hi) (fun _ => rfl))
    (.remote (Dev.tc (peer d t)) (sb.slice (Rect.unit (s := S32x72x128) off S1x72x128.size hi) (fun _ => rfl)) (.dma (semAt s10 t))) (.dma (semAt s11 t))
    (View.wordExact_bits rfl) (View.wordExact_bits rfl) ⟨⟨rfl, Or.inl rfl⟩, trivial⟩)
/-- Wait on slot `t` of `s` for a combined piece: until one has landed, or until one has left. -/
def gotAll (off : Fin 3 → Nat) (hi : ∀ a, off a + S1x72x128.size a ≤ S32x72x128.size a) (s : DmaSems sig S31) (t : Fin 31) : KProg (F := F) PUnit :=
  Prog.lift (.waitDma2 (semAt s t) (sb.slice (Rect.unit (s := S32x72x128) off S1x72x128.size hi) (fun _ => rfl)) (sb.slice (Rect.unit (s := S32x72x128) off S1x72x128.size hi) (fun _ => rfl))
    (View.wordExact_bits rfl) (View.wordExact_bits rfl))
/-- Wait until the piece for the peer at distance `t + 1` has left. -/
def leftPart (off : Fin 3 → Nat) (hi : ∀ a, off a + S1x72x128.size a ≤ S32x72x128.size a) (t : Fin 31) : KProg (F := F) PUnit :=
  Prog.lift (.waitDma2 (semAt s8 t) (rb.slice (rP (slot t)) (fun _ => rfl)) (sb.slice (Rect.unit (s := S32x72x128) off S1x72x128.size hi) (fun _ => rfl))
    (View.wordExact_bits rfl) (View.wordExact_bits rfl))

/-- One head's part of the result of batch row `b`, added on. -/
def outHead (b : Fin 2) (h : Fin 8) (acc : FVec F S256x768 .f32) : KProg (F := F) (FVec F S256x768 .f32) := do
  let o0 ← Prog.lift (.load sb (rO (pcOf b h 0)).toLoadRect (View.loadsAt_vmem h_S1x64x128))
  let o1 ← Prog.lift (.load sb (rO (pcOf b h 1)).toLoadRect (View.loadsAt_vmem h_S1x64x128))
  let l0 ← Prog.lift (.load sb (rL (pcOf b h 0)).toLoadRect (View.loadsAt_vmem h_S1x1x128))
  let l1 ← Prog.lift (.load sb (rL (pcOf b h 1)).toLoadRect (View.loadsAt_vmem h_S1x1x128))
  let w ← Prog.lift (.load wo (Rect.unit (s := S512x768) ![64 * h.val, 0] S64x768.size (inb_wo h)).toLoadRect (View.loadsAt_vmem h_S64x768))
  pure (outStep acc o0 o1 l0 l1 w)
/-- The result of batch row `b`. -/
def outBatch (b : Fin 2) : KProg (F := F) PUnit := do
  let acc ← repAcc 8 (outHead wo sb b) (broadcast S256x768 (Scalar.ofBits .f32 0x00000000#32))
  put o (Rect.unit (s := S2x256x768) ![b.val, 0, 0] S1x256x768.size (inb_x b)) h_S1x256x768 (shapeCast S1x256x768 acc shapeCasts_S256x768_S1x256x768)

/-- The whole body. -/
def body : KProg (F := F) PUnit := do
  let d ← Prog.lift .deviceId
  rep 31 (hello d)
  semWaitWord (SemArray.scalar (sig.barrier 0 rfl) : Sems sig S_).sem 31#32
  rep 2 (batchStep x wq kk vv sb)
  rep 31 (fun t => scatterAt sb rb s8 s9 (k0_off1 d (BitVec.ofNat 32 (1 + t.val))) (k0_off1_inb d t) d t)
  rep 31 (fun t => gotPart sb rb s9 (k0_off1 d (BitVec.ofNat 32 (1 + t.val))) (k0_off1_inb d t) t)
  ownSlotAt sb rb (k0_off2 d) (k0_off2_inb d)
  treeStep rb 16 (by decide) (by decide)
  treeStep rb 8 (by decide) (by decide)
  treeStep rb 4 (by decide) (by decide)
  treeStep rb 2 (by decide) (by decide)
  treeStep rb 1 (by decide) (by decide)
  putBackAt sb rb (k0_off3 d) (k0_off3_inb d)
  rep 31 (gatherAt sb s10 s11 (k0_off4 d) (k0_off4_inb d) d)
  rep 31 (gotAll sb (k0_off4 d) (k0_off4_inb d) s11)
  rep 31 (fun t => leftPart sb rb s8 (k0_off1 d (BitVec.ofNat 32 (1 + t.val))) (k0_off1_inb d t) t)
  rep 31 (gotAll sb (k0_off4 d) (k0_off4_inb d) s10)
  rep 2 (outBatch wo o sb)

/-- The whole body, each piece addressed by its number. -/
def plain : KProg (F := F) PUnit := do
  let d ← Prog.lift .deviceId
  rep 31 (hello d)
  semWaitWord (SemArray.scalar (sig.barrier 0 rfl) : Sems sig S_).sem 31#32
  rep 2 (batchStep x wq kk vv sb)
  rep 31 (fun t => scatterAt sb rb s8 s9 ![(me (peer d t)).val, 0, 0] (inb_p (me (peer d t))) d t)
  rep 31 (fun t => gotPart sb rb s9 ![(me (peer d t)).val, 0, 0] (inb_p (me (peer d t))) t)
  ownSlotAt sb rb ![(me d).val, 0, 0] (inb_p (me d))
  treeStep rb 16 (by decide) (by decide)
  treeStep rb 8 (by decide) (by decide)
  treeStep rb 4 (by decide) (by decide)
  treeStep rb 2 (by decide) (by decide)
  treeStep rb 1 (by decide) (by decide)
  putBackAt sb rb ![(me d).val, 0, 0] (inb_b (me d))
  rep 31 (gatherAt sb s10 s11 ![(me d).val, 0, 0] (inb_p (me d)) d)
  rep 31 (gotAll sb ![(me d).val, 0, 0] (inb_p (me d)) s11)
  rep 31 (fun t => leftPart sb rb s8 ![(me (peer d t)).val, 0, 0] (inb_p (me (peer d t))) t)
  rep 31 (gotAll sb ![(me d).val, 0, 0] (inb_p (me d)) s10)
  rep 2 (outBatch wo o sb)

theorem off1_eq (d : Dev nD) (t : Fin 31) : k0_off1 d (BitVec.ofNat 32 (1 + t.val)) = ![(me (peer d t)).val, 0, 0] := by
  have h : ∀ (d : Dev nD) (t : Fin 31), k0_off1 d (BitVec.ofNat 32 (1 + t.val)) 0 = (me (peer d t)).val := by decide +kernel
  funext a; fin_cases a; exacts [h d t, rfl, rfl]
theorem off2_eq (d : Dev nD) : k0_off2 d = ![(me d).val, 0, 0] := by
  have h : ∀ d : Dev nD, k0_off2 d 0 = (me d).val := by decide +kernel
  funext a; fin_cases a; exacts [h d, rfl, rfl]
theorem off3_eq (d : Dev nD) : k0_off3 d = ![(me d).val, 0, 0] := by
  have h : ∀ d : Dev nD, k0_off3 d 0 = (me d).val := by decide +kernel
  funext a; fin_cases a; exacts [h d, rfl, rfl]
theorem off4_eq (d : Dev nD) : k0_off4 d = ![(me d).val, 0, 0] := by
  have h : ∀ d : Dev nD, k0_off4 d 0 = (me d).val := by decide +kernel
  funext a; fin_cases a; exacts [h d, rfl, rfl]

/-- A function of an offset and of the fact that it is in bounds, at an equal offset. -/
theorem at_eq {β : Sort*} {sz : Fin 3 → Nat} (f : (off : Fin 3 → Nat) → (∀ a, off a + sz a ≤ S32x72x128.size a) → β) {o₁ o₂ : Fin 3 → Nat} (h : o₁ = o₂)
    (h₁ : ∀ a, o₁ a + sz a ≤ S32x72x128.size a) (h₂ : ∀ a, o₂ a + sz a ≤ S32x72x128.size a) : f o₁ h₁ = f o₂ h₂ := by subst h; rfl

theorem plain_eq : body (F := F) x wq wo kk vv o sb rb s8 s9 s10 s11 = plain x wq wo kk vv o sb rb s8 s9 s10 s11 := by
  have e1 (d : Dev nD) : (fun t : Fin 31 => scatterAt (F := F) sb rb s8 s9 (k0_off1 d (BitVec.ofNat 32 (1 + t.val))) (k0_off1_inb d t) d t)
      = fun t : Fin 31 => scatterAt sb rb s8 s9 ![(me (peer d t)).val, 0, 0] (inb_p (me (peer d t))) d t :=
    funext fun t => at_eq (fun off hi => scatterAt (F := F) sb rb s8 s9 off hi d t) (off1_eq d t) _ _
  have e2 (d : Dev nD) : (fun t : Fin 31 => gotPart (F := F) sb rb s9 (k0_off1 d (BitVec.ofNat 32 (1 + t.val))) (k0_off1_inb d t) t)
      = fun t : Fin 31 => gotPart sb rb s9 ![(me (peer d t)).val, 0, 0] (inb_p (me (peer d t))) t :=
    funext fun t => at_eq (fun off hi => gotPart (F := F) sb rb s9 off hi t) (off1_eq d t) _ _
  have e3 (d : Dev nD) : (fun t : Fin 31 => leftPart (F := F) sb rb s8 (k0_off1 d (BitVec.ofNat 32 (1 + t.val))) (k0_off1_inb d t) t)
      = fun t : Fin 31 => leftPart sb rb s8 ![(me (peer d t)).val, 0, 0] (inb_p (me (peer d t))) t :=
    funext fun t => at_eq (fun off hi => leftPart (F := F) sb rb s8 off hi t) (off1_eq d t) _ _
  have e4 (d : Dev nD) := at_eq (fun off hi => ownSlotAt (F := F) sb rb off hi) (off2_eq d) (k0_off2_inb d) (inb_p (me d))
  have e5 (d : Dev nD) := at_eq (fun off hi => putBackAt (F := F) sb rb off hi) (off3_eq d) (k0_off3_inb d) (inb_b (me d))
  have e6 (d : Dev nD) := at_eq (fun off hi => gatherAt (F := F) sb s10 s11 off hi d) (off4_eq d) (k0_off4_inb d) (inb_p (me d))
  have e7 (d : Dev nD) (s : DmaSems sig S31) := at_eq (fun off hi => gotAll (F := F) sb off hi s) (off4_eq d) (k0_off4_inb d) (inb_p (me d))
  unfold body plain
  refine congrArg _ (funext fun d => ?_)
  simp only [e1, e2, e3, e4, e5, e6, e7]

end Body

end Cert.KernelIdeal.Att

end
-- ==== Proof.Access.lean ====
/- What the kernel's loads and stores do to a buffer of 32 pieces, as equations between functions,
   and the rules for running its loops. -/
module

public import proofs.«01_k».proof.Proof.Struct
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic
public import Idealize.ShloMosaic.Lib.PointwiseCore

@[expose] public section

set_option maxRecDepth 16384

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ### Buffers of 32 pieces as functions -/

/-- The contents of a buffer of 32 pieces. -/
abbrev Big (F : FTy → Type) := S32x72x128.Idx → F .f32

/-- Rows `n` to `n + r` of the pieces `o` to `o + L`, as a load reads them. -/
def rdC (n o L r : Nat) (h : o + L ≤ 32) (hr : n + r ≤ 72) (g : Big F) : Vec F ⟨3, ![L, r, 128]⟩ .f32 :=
  fun j => g ((rC n o L r h hr).emb j)

theorem rdC_ix (n o L r : Nat) (h : o + L ≤ 32) (hr : n + r ≤ 72) (g : Big F) (a : Fin L) (b : Fin r) (e : Fin 128) :
    rdC n o L r h hr g (ix3 a b e) = g (ix3 ⟨o + a.val, by omega⟩ ⟨n + b.val, by omega⟩ e) := by
  unfold rdC
  congr 1
  funext x
  refine Fin.ext ?_
  rw [Rect.emb_apply]
  fin_cases x <;> simp [rC, ix3]

/-- Two contents that agree on the rows in use. -/
def Same (f g : Big F) : Prop := ∀ i : S32x72x128.Idx, (i 1).val < 66 → f i = g i

/-- Values, maxima and sums of a stack of pieces, by slot and row. -/
def pile {L : Nat} (vo : FVec F (SO L) .f32) (vm vl : FVec F (S1r L) .f32) (s : Fin L) (i : S32x72x128.Idx) : F .f32 :=
  if h : (i 1).val < 64 then vo (ix3 s ⟨(i 1).val, h⟩ ⟨(i 2).val, (i 2).isLt⟩)
  else if (i 1).val = 64 then vm (ix3 s 0 ⟨(i 2).val, (i 2).isLt⟩) else vl (ix3 s 0 ⟨(i 2).val, (i 2).isLt⟩)

/-- The contents after the values, maxima and sums of `L` pieces are stored from piece `o` on. -/
def laid (o L : Nat) (vo : FVec F (SO L) .f32) (vm vl : FVec F (S1r L) .f32) (f : Big F) : Big F := fun i =>
  if h : o ≤ (i 0).val ∧ (i 0).val < o + L ∧ (i 1).val < 66 then pile vo vm vl ⟨(i 0).val - o, by omega⟩ i else f i

/-- The contents after the slots `L` to `2 L` are combined into the slots below `L`. -/
def combBuf (L : Nat) (h : L + L ≤ 32) (g : Big F) : Big F :=
  laid 0 L (cOut (L := L) (rdC 0 0 L 72 (by omega) (by decide) g) (rdC 0 L L 72 h (by decide) g))
    (cMax (L := L) (rdC 0 0 L 72 (by omega) (by decide) g) (rdC 0 L L 72 h (by decide) g))
    (cSum (L := L) (rdC 0 0 L 72 (by omega) (by decide) g) (rdC 0 L L 72 h (by decide) g)) g

/-- All five rounds of combining. -/
def tree (g : Big F) : Big F :=
  combBuf 1 (by decide) (combBuf 2 (by decide) (combBuf 4 (by decide) (combBuf 8 (by decide) (combBuf 16 (by decide) g))))

/-! ### Stores and loads through a memref -/

section Rw

/-- What a memref shows of a buffer's contents. -/
abbrev look {s : Shape} (m : Memref sig .tc .vmem s .f32) (f : m.view.ty.Contents (Elt F)) : s.Idx → F .f32 := m.view.read (Elt F) f

theorem look_write_in {s : Shape} (m : Memref sig .tc .vmem s .f32) (r : Rect s) (f : m.view.ty.Contents (Elt F)) (w : r.shape.Idx → Elt F .f32) (j : r.shape.Idx) :
    look m ((m.access r).write (Elt F) f w Finset.univ) (r.emb j) = w j := by
  have h := View.write_emb_of_mem (v := m.access r) (Val := Elt F) f w (Finset.mem_univ j)
  unfold look
  rw [View.read_apply]
  exact (congrArg _ h).trans (by simp)

theorem look_write_out {s : Shape} (m : Memref sig .tc .vmem s .f32) (r : Rect s) (f : m.view.ty.Contents (Elt F)) (w : r.shape.Idx → Elt F .f32) (i : s.Idx)
    (hi : i ∉ r.set) : look m ((m.access r).write (Elt F) f w Finset.univ) i = look m f i := by
  have h := View.write_of_not_mem (v := m.access r) (Val := Elt F) f w Finset.univ (i := m.view.emb i) (by
    show m.view.emb i ∉ (m.view.slice r).set
    rw [View.set_slice]
    intro h'
    obtain ⟨k, hk, e⟩ := Finset.mem_map.mp h'
    exact hi (m.view.emb.injective e ▸ hk))
  unfold look
  rw [View.read_apply, View.read_apply]
  exact congrArg _ h

theorem look_load {s : Shape} (m : Memref sig .tc .vmem s .f32) (r : Rect s) (f : m.view.ty.Contents (Elt F)) :
    m.view.readAt (Elt F) r.toLoadRect f = fun j => look m f (r.emb j) := rfl

variable (m : Memref sig .tc .vmem S32x72x128 .f32)

/-- A store into rows `n` to `n + r` of the pieces `o` to `o + L`. -/
theorem look_put (n o L r : Nat) (h : o + L ≤ 32) (hr : n + r ≤ 72) (f : m.view.ty.Contents (Elt F)) (w : Vec F ⟨3, ![L, r, 128]⟩ .f32)
    (i : S32x72x128.Idx) : look m ((m.access (rC n o L r h hr)).write (Elt F) f w Finset.univ) i
      = if hi : (o ≤ (i 0).val ∧ (i 0).val < o + L) ∧ (n ≤ (i 1).val ∧ (i 1).val < n + r)
        then w (ix3 ⟨(i 0).val - o, by omega⟩ ⟨(i 1).val - n, by omega⟩ ⟨(i 2).val, (i 2).isLt⟩) else look m f i := by
  split
  · rename_i hi
    have e : i = (rC n o L r h hr).emb (ix3 ⟨(i 0).val - o, by omega⟩ ⟨(i 1).val - n, by omega⟩ ⟨(i 2).val, (i 2).isLt⟩) := by
      funext x
      refine Fin.ext ?_
      rw [Rect.emb_apply]
      fin_cases x <;> simp [rC, ix3] <;> omega
    conv_lhs => rw [e]
    exact look_write_in m (rC n o L r h hr) f w _
  · rename_i hi
    refine look_write_out m (rC n o L r h hr) f w i fun hm => hi ?_
    have := Rect.mem_set_unit.1 hm
    exact ⟨this 0, this 1⟩

end Rw

/-! ### The proof's resources -/

/-- The rounds of the kernel's own semaphores; a duty of one of them is named by a number below 31. -/
abbrev UB : Type := URounds (GSem nD τ sig) (Fin 31)
abbrev UU : Type := UR sig nD τ × UB

local notation "𝕄" => MT nD τ sig Unit (Elt F) ℕ UU ℕ

abbrev 𝒱₀ : Variants := Variants.none

/-- The weakest precondition of a program on device `c`'s core. -/
abbrev wpc (c : Dev nD) {α : Type} (p : KProg (F := F) α) (Q : α → sProp 𝕄) : sProp 𝕄 :=
  wp frame (wpE (defs₀ (F := F)) 𝒱₀ (c : Thread nD τ) none) Set.univ p Q

section Rules
variable (c : Dev nD)

theorem seq_wp {α β : Type} {p : KProg (F := F) α} {q : α → KProg (F := F) β} {P Fr : sProp 𝕄} {R : α → sProp 𝕄} {Q : β → sProp 𝕄}
    (hp : P ⊢ wpc c p R) (hq : ∀ a, iprop(R a ∗ Fr) ⊢ wpc c (q a) Q) : iprop(P ∗ Fr) ⊢ wpc c (p >>= q) Q := by
  unfold wpc
  rw [wp_bind]
  exact ((sep_mono_left hp).trans (wp_frame_r _ _ _)).trans (wp_mono _ _ _ hq)

theorem mono_wp {α : Type} {p : KProg (F := F) α} {P : sProp 𝕄} {R Q : α → sProp 𝕄} (hp : P ⊢ wpc c p R) (hq : ∀ a, R a ⊢ Q a) :
    P ⊢ wpc c p Q := hp.trans (wp_mono _ _ _ hq)

/-- A loop: one state carried along, and one resource consumed and one produced by each turn. -/
theorem rep_wp : ∀ (n : Nat) (f : Fin n → KProg (F := F) PUnit) (S : Nat → sProp 𝕄) (Φ Ψ : Fin n → sProp 𝕄),
    (∀ t, iprop(S t.val ∗ Φ t) ⊢ wpc c (f t) fun _ => iprop(S (t.val + 1) ∗ Ψ t)) →
    iprop(S 0 ∗ bigSep Finset.univ Φ) ⊢ wpc c (rep n f) fun _ => iprop(S n ∗ bigSep Finset.univ Ψ)
  | 0, f, S, Φ, Ψ, _ => by
    unfold rep wpc
    rw [wp_pure, Finset.univ_eq_empty, bigSep_empty, bigSep_empty]
    exact fupd_intro
  | n + 1, f, S, Φ, Ψ, h => by
    have hs (X : Fin (n + 1) → sProp 𝕄) : bigSep Finset.univ X = iprop(X 0 ∗ bigSep Finset.univ fun i : Fin n => X i.succ) := by
      rw [Fin.univ_succ, Finset.cons_eq_insert, bigSep_insert (by simp), bigSep_map]; rfl
    unfold rep
    rw [hs Φ]
    have ih := rep_wp n (fun i => f i.succ) (fun k => S (k + 1)) (fun i => Φ i.succ) (fun i => Ψ i.succ) (fun t => h t.succ)
    refine sep_assoc'.trans (seq_wp c (h 0) fun _ => ?_)
    rw [hs Ψ]
    show iprop((S 1 ∗ Ψ 0) ∗ _) ⊢ _
    have fr : iprop((S 1 ∗ Ψ 0) ∗ bigSep Finset.univ fun i : Fin n => Φ i.succ) ⊢ iprop((S 1 ∗ bigSep Finset.univ fun i : Fin n => Φ i.succ) ∗ Ψ 0) := by
      iintro ⟨⟨H1, H2⟩, H3⟩
      isplitr [H2]
      · isplitl [H1] <;> iassumption
      · iexact H2
    refine fr.trans (((sep_mono_left ih).trans (wp_frame_r _ _ _)).trans (wp_mono _ _ _ fun _ => ?_))
    iintro ⟨⟨H1, H2⟩, H3⟩
    isplitl [H1]; · iexact H1
    isplitl [H3] <;> iassumption

/-- A loop that only carries a state along. -/
theorem rep_wp' : ∀ (n : Nat) (f : Fin n → KProg (F := F) PUnit) (S : Nat → sProp 𝕄),
    (∀ t, S t.val ⊢ wpc c (f t) fun _ => S (t.val + 1)) → S 0 ⊢ wpc c (rep n f) fun _ => S n
  | 0, f, S, _ => by
    unfold rep wpc
    rw [wp_pure]
    exact fupd_intro
  | n + 1, f, S, h => by
    unfold rep wpc
    rw [wp_bind]
    exact (h 0).trans (wp_mono _ _ _ fun _ => rep_wp' n (fun i => f i.succ) (fun k => S (k + 1)) (fun t => h t.succ))

/-- The value that a loop with an accumulator returns. -/
def accum {α : Type} : (n : Nat) → (Fin n → α → α) → α → α
  | 0, _, a => a
  | n + 1, g, a => accum n (fun i => g i.succ) (g 0 a)

/-- A loop with an accumulator. -/
theorem repAcc_wp {α : Type} (P : sProp 𝕄) : ∀ (n : Nat) (f : Fin n → α → KProg (F := F) α) (g : Fin n → α → α) (a : α),
    (∀ t a, P ⊢ wpc c (f t a) fun a' => iprop(⌜a' = g t a⌝ ∗ P)) → P ⊢ wpc c (repAcc n f a) fun a' => iprop(⌜a' = accum n g a⌝ ∗ P)
  | 0, f, g, a, _ => by
    unfold repAcc wpc
    rw [wp_pure]
    refine BIBase.Entails.trans ?_ fupd_intro
    iintro H
    isplitr; · ipureintro; rfl
    iexact H
  | n + 1, f, g, a, h => by
    unfold repAcc wpc
    rw [wp_bind]
    refine (h 0 a).trans (wp_mono _ _ _ fun a' => ?_)
    iintro ⟨%e, H⟩
    subst e
    iapply (repAcc_wp P n (fun i => f i.succ) (fun i => g i.succ) (g 0 a) (fun t a => h t.succ a))
    iexact H

/-- One overwriting. -/
theorem put_wp {s : Shape} (m : Memref sig .tc .vmem s .f32) (r : Rect s) (h : 0 < r.shape.numel) (v : FVec F r.shape .f32)
    (S : Finset (Idx (m.view.loc (c : Thread nD τ)))) (hS : (m.access r).set ⊆ S) (f : Buf (Elt F) (m.view.loc (c : Thread nD τ))) :
    (m.view.loc (c : Thread nD τ) ↦[S]{fullShare} f : sProp 𝕄)
      ⊢ wpc c (put m r h v) fun _ => iprop(m.view.loc (c : Thread nD τ) ↦[S]{fullShare} ((m.access r).write (Elt F) f v Finset.univ)) := by
  unfold put wpc
  iintro H
  iapply (wp_load 𝒱₀ (c : Thread nD τ) none Set.univ (m := m) ((View.set_slice m.view r).symm.trans_subset hS)) $$ H
  iintro H
  iapply (wp_store 𝒱₀ (c : Thread nD τ) none Set.univ (m := m) (r := r) (Mk := Finset.univ) hS) $$ H
  iintro H
  rw [wp_ret]
  imodintro
  iexact H

end Rules

end Cert.KernelIdeal.Att

end
-- ==== Proof.Buf.lean ====
/- The computing parts of the body, run on the device's own buffers: the heads, the rounds of
   combining and the output, each as an equation between the contents before and after. -/
module

public import proofs.«01_k».proof.Proof.Access

@[expose] public section

set_option maxRecDepth 16384

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ### What the computing parts leave behind -/

/-- The rows a head's keys or values come from. -/
abbrev rK (b : Fin 2) (h : Fin 8) : Rect S2x512x2x64 := Rect.unit (s := S2x512x2x64) ![b.val, 0, h.val / 4, 0] S1x512x1x64.size (inb_kv b h)
abbrev rX (b : Fin 2) : Rect S2x256x768 := Rect.unit (s := S2x256x768) ![b.val, 0, 0] S1x256x768.size (inb_x b)
abbrev rW : Rect S768x512 := Rect.unit (s := S768x512) ![0, 0] S768x512.size inb_S768x512_S768x512_0_0
abbrev rWo (h : Fin 8) : Rect S512x768 := Rect.unit (s := S512x768) ![64 * h.val, 0] S64x768.size (inb_wo h)

/-- The keys or values of head `h` in batch row `b`. -/
def grp (g : S2x512x2x64.Idx → F .f32) (b : Fin 2) (h : Fin 8) : Vec F S1x512x1x64 .f32 := fun j => g ((rK b h).emb j)
/-- The queries of batch row `b`. -/
def qry (x : S2x256x768.Idx → F .f32) (w : S768x512.Idx → F .f32) (b : Fin 2) : FVec F S256x512 .f32 :=
  queries (fun j => x ((rX b).emb j)) (fun j => w (rW.emb j))

/-- One head's results for one half of the queries. -/
def headPile (x : S2x256x768.Idx → F .f32) (w : S768x512.Idx → F .f32) (k v : S2x512x2x64.Idx → F .f32)
    (b : Fin 2) (h : Fin 8) (j : Fin 2) (i : S32x72x128.Idx) : F .f32 :=
  pile (L := 1) (halfO (hOut (qry x w b) (grp k b h) (grp v b h) h) j) (half1 (hMax (qry x w b) (grp k b h) h) j)
    (half1 (hSum (qry x w b) (grp k b h) h) j) 0 i

/-- A device's partial results: piece `16 b + 2 h + j` is head `h` of batch row `b` at half `j` of the queries. -/
def headBuf (x : S2x256x768.Idx → F .f32) (w : S768x512.Idx → F .f32) (k v : S2x512x2x64.Idx → F .f32) : Big F := fun i =>
  headPile x w k v ⟨(i 0).val / 16, by have := (i 0).isLt; change (i 0).val < 32 at this; omega⟩
    ⟨(i 0).val / 2 % 8, by omega⟩ ⟨(i 0).val % 2, by omega⟩ i

/-- The result of batch row `b` from the combined pieces. -/
def outRow (g : Big F) (w : S512x768.Idx → F .f32) (b : Fin 2) : FVec F S256x768 .f32 :=
  accum 8 (fun h acc => outStep acc (rdC 0 (pcOf b h 0).val 1 64 (pcOf b h 0).isLt (by decide) g) (rdC 0 (pcOf b h 1).val 1 64 (pcOf b h 1).isLt (by decide) g)
      (rdC 65 (pcOf b h 0).val 1 1 (pcOf b h 0).isLt (by decide) g) (rdC 65 (pcOf b h 1).val 1 1 (pcOf b h 1).isLt (by decide) g)
      (fun j => w ((rWo h).emb j)))
    (broadcast S256x768 (Scalar.ofBits .f32 0x00000000#32))

/-- The whole result. -/
def outVal (g : Big F) (w : S512x768.Idx → F .f32) : S2x256x768.Idx → F .f32 := fun i =>
  outRow g w ⟨(i 0).val, (i 0).isLt⟩ (ix2 ⟨(i 1).val, (i 1).isLt⟩ ⟨(i 2).val, (i 2).isLt⟩)

theorem rdC_congr {f g : Big F} (hs : Same f g) (n o L r : Nat) (h : o + L ≤ 32) (hr : n + r ≤ 66) :
    rdC n o L r h (by omega) f = rdC n o L r h (by omega) g := by
  funext j
  have : (j 1).val < r := (j 1).isLt
  refine hs _ ?_
  rw [Rect.emb_apply]
  show n + 1 * (j 1).val < 66
  omega

theorem outRow_congr {f g : Big F} (hs : Same f g) (w : S512x768.Idx → F .f32) (b : Fin 2) : outRow f w b = outRow g w b := by
  unfold outRow
  congr 1
  funext h acc
  rw [rdC_congr hs 0 _ 1 64 _ (by decide), rdC_congr hs 0 _ 1 64 _ (by decide), rdC_congr hs 65 _ 1 1 _ (by decide),
    rdC_congr hs 65 _ 1 1 _ (by decide)]

theorem outVal_congr {f g : Big F} (hs : Same f g) (w : S512x768.Idx → F .f32) : outVal f w = outVal g w := by
  funext i; unfold outVal; rw [outRow_congr hs]

/-- Combining looks only at the rows in use. -/
theorem combBuf_congr (L : Nat) (h : L + L ≤ 32) {f g : Big F} (hs : Same f g) : Same (combBuf L h f) (combBuf L h g) := by
  have e (o : Nat) (ho : o + L ≤ 32) (n r : Nat) (hr : n + r ≤ 66) (hsl : (SP L).Slices ![0, n, 0] ⟨3, ![L, r, 128]⟩) :
      extractStridedSlice ⟨3, ![L, r, 128]⟩ ![0, n, 0] (rdC 0 o L 72 ho (by decide) f) hsl
        = extractStridedSlice ⟨3, ![L, r, 128]⟩ ![0, n, 0] (rdC 0 o L 72 ho (by decide) g) hsl := by
    funext j
    have hj1 : (j 1).val < r := (j 1).isLt
    refine hs _ ?_
    rw [Rect.emb_apply]
    show 0 + 1 * (n + (j 1).val) < 66
    omega
  intro i hi
  unfold combBuf laid
  split
  · unfold pile
    split
    · unfold cOut cFac cMax
      rw [e 0 _ 64 1 (by decide), e L _ 64 1 (by decide), e 0 _ 0 64 (by decide), e L _ 0 64 (by decide)]
    · split
      · unfold cMax
        rw [e 0 _ 64 1 (by decide), e L _ 64 1 (by decide)]
      · unfold cSum cFac cMax
        rw [e 0 _ 64 1 (by decide), e L _ 64 1 (by decide), e 0 _ 65 1 (by decide), e L _ 65 1 (by decide)]
  · exact hs i hi

theorem tree_congr {f g : Big F} (hs : Same f g) : Same (tree f) (tree g) :=
  combBuf_congr 1 _ (combBuf_congr 2 _ (combBuf_congr 4 _ (combBuf_congr 8 _ (combBuf_congr 16 _ hs))))

/-! ### The parts run -/

section Run
variable (c : Dev nD)

theorem swap {P Q : sProp 𝕄} : iprop(P ∗ Q) ⊢ iprop(Q ∗ P) := by
  iintro ⟨H1, H2⟩
  isplitl [H2] <;> iassumption
theorem swapl {P Q R : sProp 𝕄} : iprop(P ∗ Q ∗ R) ⊢ iprop(Q ∗ P ∗ R) := by
  iintro ⟨H1, H2, H3⟩
  isplitl [H2]; · iexact H2
  isplitl [H1] <;> iassumption

/-- Ownership, at some share, of the elements `S` of a memref's buffer. -/
abbrev own {s : Shape} (m : Memref sig .tc .vmem s .f32) (S : Finset (Idx (m.view.loc (c : Thread nD τ)))) (q : PosShare TreeShare)
    (f : Buf (Elt F) (m.view.loc (c : Thread nD τ))) : sProp 𝕄 := m.view.loc (c : Thread nD τ) ↦[S]{q} f

theorem put3_wp (m : Memref sig .tc .vmem S32x72x128 .f32) (o L : Nat) (hL : 0 < L) (h : o + L ≤ 32) (vo : FVec F (SO L) .f32)
    (vm vl : FVec F (S1r L) .f32) (S : Finset (Idx (m.view.loc (c : Thread nD τ))))
    (hS : ∀ i : S32x72x128.Idx, o ≤ (i 0).val → (i 0).val < o + L → m.view.emb i ∈ S) (f : Buf (Elt F) (m.view.loc (c : Thread nD τ))) :
    own c m S fullShare f ⊢ wpc c (put3 m o L hL h vo vm vl) fun _ => iprop(∃ f', ⌜look m f' = laid o L vo vm vl (look m f)⌝ ∗ own c m S fullShare f') := by
  have hs (n r : Nat) (hr : n + r ≤ 72) : (m.access (rC n o L r h hr)).set ⊆ S := by
    intro x hx
    have hx' : x ∈ (m.view.slice (rC n o L r h hr)).set := hx
    rw [View.set_slice] at hx'
    obtain ⟨i, hi, rfl⟩ := Finset.mem_map.mp hx'
    have := Rect.mem_set_unit.1 hi 0
    exact hS i this.1 this.2
  unfold put3 wpc
  rw [wp_bind]
  refine (put_wp c m (rC 0 o L 64 h (by decide)) _ vo S (hs _ _ _) f).trans (wp_mono _ _ _ fun _ => ?_)
  rw [wp_bind]
  refine (put_wp c m (rC 64 o L 1 h (by decide)) _ vm S (hs _ _ _) _).trans (wp_mono _ _ _ fun _ => ?_)
  refine (put_wp c m (rC 65 o L 1 h (by decide)) _ vl S (hs _ _ _) _).trans (wp_mono _ _ _ fun _ => ?_)
  iintro H
  iexists _
  isplitr
  rotate_left
  · iexact H
  ipureintro
  funext i
  rw [look_put, look_put, look_put]
  unfold laid pile
  split_ifs with h1 h2 h3 h4 h5 h6 <;> first | rfl | omega | skip
  all_goals
    congr 1
    funext x
    fin_cases x <;> (refine Fin.ext ?_; simp [ix3]) <;> omega

theorem load_wp {s : Shape} (m : Memref sig .tc .vmem s .f32) (r : Rect s) (hl : m.view.LoadsAt r.toLoadRect)
    (S : Finset (Idx (m.view.loc (c : Thread nD τ)))) (hS : (m.access r).set ⊆ S) (q : PosShare TreeShare) (f : Buf (Elt F) (m.view.loc (c : Thread nD τ))) :
    own c m S q f ⊢ wpc (F := F) c (Prog.lift (.load m r.toLoadRect hl)) fun w => iprop(⌜w = fun j => look m f (r.emb j)⌝ ∗ own c m S q f) := by
  unfold wpc
  iintro H
  iapply (wp_load 𝒱₀ (c : Thread nD τ) none Set.univ (m := m) ((View.set_slice m.view r).symm.trans_subset hS)) $$ H
  iintro H
  rw [wp_ret]
  imodintro
  isplitr; · ipureintro; rfl
  iexact H

/-- A load at the head of a program, other things owned being kept. -/
theorem load_seq {s : Shape} (m : Memref sig .tc .vmem s .f32) (r : Rect s) (hl : m.view.LoadsAt r.toLoadRect)
    (S : Finset (Idx (m.view.loc (c : Thread nD τ)))) (hS : (m.access r).set ⊆ S) (q : PosShare TreeShare) (f : Buf (Elt F) (m.view.loc (c : Thread nD τ)))
    {α : Type} (k : (r.toLoadRect.shape.Idx → Elt F .f32) → KProg (F := F) α) (P : sProp 𝕄) (Q : α → sProp 𝕄)
    (h : iprop(own c m S q f ∗ P) ⊢ wpc c (k fun j => look m f (r.emb j)) Q) :
    iprop(own c m S q f ∗ P) ⊢ wpc c (Prog.lift (.load m r.toLoadRect hl) >>= k) Q := by
  refine seq_wp c (load_wp c m r hl S hS q f) fun w => ?_
  iintro ⟨⟨%e, H⟩, HP⟩
  subst e
  iapply h
  isplitl [H] <;> iassumption

/-- One round of combining. -/
theorem treeStep_wp (m : Memref sig .tc .vmem S32x72x128 .f32) (L : Nat) (hL : 0 < L) (h : L + L ≤ 32) (f : Buf (Elt F) (m.view.loc (c : Thread nD τ))) :
    own c m Finset.univ fullShare f ⊢ wpc c (treeStep m L hL h) fun _ => iprop(∃ f', ⌜look m f' = combBuf L h (look m f)⌝ ∗ own c m Finset.univ fullShare f') := by
  have h0 : 0 + L ≤ 32 := by omega
  have h72 : 0 + 72 ≤ 72 := by decide
  unfold treeStep
  refine (sep_emp (PROP := sProp 𝕄)).2.trans ?_
  refine load_seq c m (rC 0 0 L 72 h0 h72) (View.loadsAt_vmem (numel_c L 72 hL (by decide))) Finset.univ (Finset.subset_univ _) fullShare f _ _ _ ?_
  refine load_seq c m (rC 0 L L 72 h h72) (View.loadsAt_vmem (numel_c L 72 hL (by decide))) Finset.univ (Finset.subset_univ _) fullShare f _ _ _ ?_
  refine (sep_emp (PROP := sProp 𝕄)).1.trans ?_
  rw [shapeCast_self, shapeCast_self, shapeCast_self]
  exact put3_wp c m 0 L hL (by omega) (cOut (L := L) (rdC 0 0 L 72 (by omega) (by decide) (look m f)) (rdC 0 L L 72 h (by decide) (look m f)))
    (cMax (L := L) (rdC 0 0 L 72 (by omega) (by decide) (look m f)) (rdC 0 L L 72 h (by decide) (look m f)))
    (cSum (L := L) (rdC 0 0 L 72 (by omega) (by decide) (look m f)) (rdC 0 L L 72 h (by decide) (look m f))) Finset.univ (fun _ _ _ => Finset.mem_univ _) f

/-- The five rounds. -/
theorem tree_wp (m : Memref sig .tc .vmem S32x72x128 .f32) (f : Buf (Elt F) (m.view.loc (c : Thread nD τ))) {α : Type} (k : PUnit → KProg (F := F) α)
    (P : sProp 𝕄) (Q : α → sProp 𝕄)
    (hk : ∀ f' : Buf (Elt F) (m.view.loc (c : Thread nD τ)), look m f' = tree (look m f) → iprop(own c m Finset.univ fullShare f' ∗ P) ⊢ wpc c (k ⟨⟩) Q) :
    iprop(own c m Finset.univ fullShare f ∗ P) ⊢ wpc c (do
      treeStep m 16 (by decide) (by decide)
      treeStep m 8 (by decide) (by decide)
      treeStep m 4 (by decide) (by decide)
      treeStep m 2 (by decide) (by decide)
      treeStep m 1 (by decide) (by decide)
      k ⟨⟩) Q := by
  have step (L : Nat) (hL : 0 < L) (h : L + L ≤ 32) (f : Buf (Elt F) (m.view.loc (c : Thread nD τ))) (q : KProg (F := F) α)
      (hq : ∀ f' : Buf (Elt F) (m.view.loc (c : Thread nD τ)), look m f' = combBuf L h (look m f) → iprop(own c m Finset.univ fullShare f' ∗ P) ⊢ wpc c q Q) :
      iprop(own c m Finset.univ fullShare f ∗ P) ⊢ wpc c (treeStep m L hL h >>= fun _ => q) Q := by
    refine seq_wp c (treeStep_wp c m L hL h f) fun _ => ?_
    iintro ⟨⟨%f', %e, H⟩, HP⟩
    iapply (hq f' e)
    isplitl [H] <;> iassumption
  refine step 16 _ _ f _ fun f1 e1 => ?_
  refine step 8 _ _ f1 _ fun f2 e2 => ?_
  refine step 4 _ _ f2 _ fun f3 e3 => ?_
  refine step 2 _ _ f3 _ fun f4 e4 => ?_
  refine step 1 _ _ f4 _ fun f5 e5 => ?_
  refine hk f5 ?_
  rw [e5, e4, e3, e2, e1]; rfl

/-! #### The heads -/

section Heads
variable (x : Memref sig .tc .vmem S2x256x768 .f32) (wq : Memref sig .tc .vmem S768x512 .f32) (kk vv : Memref sig .tc .vmem S2x512x2x64 .f32)
  (sb : Memref sig .tc .vmem S32x72x128 .f32)
  (xf : Buf (Elt F) (x.view.loc (c : Thread nD τ))) (wf : Buf (Elt F) (wq.view.loc (c : Thread nD τ)))
  (kf : Buf (Elt F) (kk.view.loc (c : Thread nD τ))) (vf : Buf (Elt F) (vv.view.loc (c : Thread nD τ)))

/-- The first `n` pieces hold the device's partial results. -/
def Filled (n : Nat) (H : Big F) (g : Big F) : Prop := ∀ i : S32x72x128.Idx, (i 0).val < n → (i 1).val < 66 → g i = H i

def filled (n : Nat) : sProp 𝕄 :=
  iprop(∃ f, ⌜Filled n (headBuf (look x xf) (look wq wf) (look kk kf) (look vv vf)) (look sb f)⌝ ∗ own c sb Finset.univ fullShare f)

theorem storeHalf_wp (b : Fin 2) (h : Fin 8) (j : Fin 2) :
    filled c x wq kk vv sb xf wf kf vf (2 * (8 * b.val + h.val) + j.val)
      ⊢ wpc c (storeHalf sb b h (qry (look x xf) (look wq wf) b) (grp (look kk kf) b h) (grp (look vv vf) b h) j)
        fun _ => filled c x wq kk vv sb xf wf kf vf (2 * (8 * b.val + h.val) + (j.val + 1)) := by
  unfold filled storeHalf
  iintro ⟨%f, %hf, H⟩
  iapply (mono_wp c (put3_wp c sb (pcOf b h j).val 1 Nat.zero_lt_one (pcOf b h j).isLt
    (halfO (hOut (qry (look x xf) (look wq wf) b) (grp (look kk kf) b h) (grp (look vv vf) b h) h) j)
    (half1 (hMax (qry (look x xf) (look wq wf) b) (grp (look kk kf) b h) h) j)
    (half1 (hSum (qry (look x xf) (look wq wf) b) (grp (look kk kf) b h) h) j) Finset.univ (fun _ _ _ => Finset.mem_univ _) f)
    (Q := fun _ => iprop(∃ f, ⌜Filled (2 * (8 * b.val + h.val) + (j.val + 1)) (headBuf (look x xf) (look wq wf) (look kk kf) (look vv vf)) (look sb f)⌝
      ∗ own c sb Finset.univ fullShare f)) fun _ => ?_) $$ H
  iintro ⟨%f', %e, H⟩
  iexists f'
  isplitr
  rotate_left
  · iexact H
  ipureintro
  intro i hi0 hi1
  rw [e]
  unfold laid
  have hp : (pcOf b h j).val = 2 * (8 * b.val + h.val) + j.val := rfl
  by_cases hq : (i 0).val = 2 * (8 * b.val + h.val) + j.val
  · rw [dif_pos ⟨by omega, by omega, hi1⟩]
    unfold headBuf headPile
    have eb : (⟨(i 0).val / 16, by omega⟩ : Fin 2) = b := Fin.ext (by show (i 0).val / 16 = b.val; omega)
    have eh : (⟨(i 0).val / 2 % 8, by omega⟩ : Fin 8) = h := Fin.ext (by show (i 0).val / 2 % 8 = h.val; omega)
    have ej : (⟨(i 0).val % 2, by omega⟩ : Fin 2) = j := Fin.ext (by show (i 0).val % 2 = j.val; omega)
    rw [eb, eh, ej]
    congr 1
    exact Fin.ext (by show (i 0).val - (pcOf b h j).val = 0; omega)
  · rw [dif_neg (by omega)]
    exact hf i (by omega) hi1

/-- What the heads read. -/
abbrev ins : sProp 𝕄 :=
  iprop(own c x Finset.univ fullShare xf ∗ own c wq Finset.univ fullShare wf ∗ own c kk Finset.univ fullShare kf ∗ own c vv Finset.univ fullShare vf)

theorem headStep_wp (b : Fin 2) (h : Fin 8) :
    iprop(filled c x wq kk vv sb xf wf kf vf (16 * b.val + 2 * h.val) ∗ own c kk Finset.univ fullShare kf ∗ own c vv Finset.univ fullShare vf)
      ⊢ wpc c (headStep kk vv sb b (qry (look x xf) (look wq wf) b) h)
        fun _ => iprop(filled c x wq kk vv sb xf wf kf vf (16 * b.val + 2 * (h.val + 1)) ∗ own c kk Finset.univ fullShare kf ∗ own c vv Finset.univ fullShare vf) := by
  unfold headStep
  have p1 : iprop(filled c x wq kk vv sb xf wf kf vf (16 * b.val + 2 * h.val) ∗ own c kk Finset.univ fullShare kf ∗ own c vv Finset.univ fullShare vf)
      ⊢ iprop(own c kk Finset.univ fullShare kf ∗ (own c vv Finset.univ fullShare vf ∗ filled c x wq kk vv sb xf wf kf vf (16 * b.val + 2 * h.val))) := by
    iintro ⟨H1, H2, H3⟩
    isplitl [H2]; · iexact H2
    isplitl [H3] <;> iassumption
  refine p1.trans (load_seq c kk (rK b h) _ Finset.univ (Finset.subset_univ _) fullShare kf _ _ _ ?_)
  refine swapl.trans (load_seq c vv (rK b h) _ Finset.univ (Finset.subset_univ _) fullShare vf _ _ _ ?_)
  have p2 : iprop(own c vv Finset.univ fullShare vf ∗ (own c kk Finset.univ fullShare kf ∗ filled c x wq kk vv sb xf wf kf vf (16 * b.val + 2 * h.val)))
      ⊢ iprop(filled c x wq kk vv sb xf wf kf vf (2 * (8 * b.val + h.val) + 0) ∗ (own c kk Finset.univ fullShare kf ∗ own c vv Finset.univ fullShare vf)) := by
    rw [show 2 * (8 * b.val + h.val) + 0 = 16 * b.val + 2 * h.val by omega]
    iintro ⟨H1, H2, H3⟩
    isplitl [H3]; · iexact H3
    isplitl [H2] <;> iassumption
  refine p2.trans ?_
  refine ((sep_mono_left (rep_wp' c 2 (storeHalf sb b h (qry (look x xf) (look wq wf) b) (grp (look kk kf) b h) (grp (look vv vf) b h))
    (fun n => filled c x wq kk vv sb xf wf kf vf (2 * (8 * b.val + h.val) + n)) (fun t => storeHalf_wp c x wq kk vv sb xf wf kf vf b h t))).trans
      (wp_frame_r _ _ _)).trans (wp_mono _ _ _ fun _ => ?_)
  rw [show 2 * (8 * b.val + h.val) + 2 = 16 * b.val + 2 * (h.val + 1) by omega]

theorem batchStep_wp (b : Fin 2) :
    iprop(filled c x wq kk vv sb xf wf kf vf (16 * b.val) ∗ ins c x wq kk vv xf wf kf vf)
      ⊢ wpc c (batchStep x wq kk vv sb b) fun _ => iprop(filled c x wq kk vv sb xf wf kf vf (16 * (b.val + 1)) ∗ ins c x wq kk vv xf wf kf vf) := by
  unfold batchStep ins
  have p1 : iprop(filled c x wq kk vv sb xf wf kf vf (16 * b.val) ∗ own c x Finset.univ fullShare xf ∗ own c wq Finset.univ fullShare wf ∗ own c kk Finset.univ fullShare kf ∗ own c vv Finset.univ fullShare vf)
      ⊢ iprop(own c x Finset.univ fullShare xf ∗ (own c wq Finset.univ fullShare wf ∗ filled c x wq kk vv sb xf wf kf vf (16 * b.val) ∗ own c kk Finset.univ fullShare kf ∗ own c vv Finset.univ fullShare vf)) := by
    iintro ⟨H1, H2, H3, H4, H5⟩
    isplitl [H2]; · iexact H2
    isplitl [H3]; · iexact H3
    isplitl [H1]; · iexact H1
    isplitl [H4] <;> iassumption
  refine p1.trans (load_seq c x (rX b) _ Finset.univ (Finset.subset_univ _) fullShare xf _ _ _ ?_)
  refine swapl.trans (load_seq c wq rW _ Finset.univ (Finset.subset_univ _) fullShare wf _ _ _ ?_)
  have p2 : iprop(own c wq Finset.univ fullShare wf ∗ (own c x Finset.univ fullShare xf ∗ filled c x wq kk vv sb xf wf kf vf (16 * b.val) ∗ own c kk Finset.univ fullShare kf ∗ own c vv Finset.univ fullShare vf))
      ⊢ iprop((filled c x wq kk vv sb xf wf kf vf (16 * b.val + 2 * 0) ∗ own c kk Finset.univ fullShare kf ∗ own c vv Finset.univ fullShare vf)
          ∗ (own c x Finset.univ fullShare xf ∗ own c wq Finset.univ fullShare wf)) := by
    rw [show 16 * b.val + 2 * 0 = 16 * b.val by omega]
    iintro ⟨H1, H2, H3⟩
    isplitl [H3]; · iexact H3
    isplitl [H2] <;> iassumption
  refine p2.trans ?_
  refine ((sep_mono_left (rep_wp' c 8 (headStep kk vv sb b (qry (look x xf) (look wq wf) b))
    (fun n => iprop(filled c x wq kk vv sb xf wf kf vf (16 * b.val + 2 * n) ∗ own c kk Finset.univ fullShare kf ∗ own c vv Finset.univ fullShare vf))
    (fun t => headStep_wp c x wq kk vv sb xf wf kf vf b t))).trans (wp_frame_r _ _ _)).trans (wp_mono _ _ _ fun _ => ?_)
  rw [show 16 * b.val + 2 * 8 = 16 * (b.val + 1) by omega]
  iintro ⟨⟨H1, H2, H3⟩, H4, H5⟩
  isplitl [H1]; · iexact H1
  isplitl [H4]; · iexact H4
  isplitl [H5]; · iexact H5
  isplitl [H2] <;> iassumption

/-- All the heads: the buffer of pieces ends holding the device's partial results. -/
theorem heads_wp (f : Buf (Elt F) (sb.view.loc (c : Thread nD τ))) :
    iprop(own c sb Finset.univ fullShare f ∗ ins c x wq kk vv xf wf kf vf)
      ⊢ wpc c (rep 2 (batchStep x wq kk vv sb))
        fun _ => iprop((∃ f, ⌜Same (look sb f) (headBuf (look x xf) (look wq wf) (look kk kf) (look vv vf))⌝ ∗ own c sb Finset.univ fullShare f)
          ∗ ins c x wq kk vv xf wf kf vf) := by
  have h := rep_wp' c 2 (batchStep x wq kk vv sb)
    (fun n => iprop(filled c x wq kk vv sb xf wf kf vf (16 * n) ∗ ins c x wq kk vv xf wf kf vf)) (fun t => batchStep_wp c x wq kk vv sb xf wf kf vf t)
  refine BIBase.Entails.trans (sep_mono_left ?_) (mono_wp c h fun _ => sep_mono_left ?_)
  · unfold filled
    iintro H
    iexists f
    isplitr; · ipureintro; intro i hi; exact absurd hi (Nat.not_lt_zero _)
    iexact H
  · unfold filled
    iintro ⟨%g, %hg, H⟩
    iexists g
    isplitr; · ipureintro; intro i hi; exact hg i (i 0).isLt hi
    iexact H

end Heads

/-! #### The result -/

section Out
variable (wo : Memref sig .tc .vmem S512x768 .f32) (o : Memref sig .tc .vmem S2x256x768 .f32) (sb : Memref sig .tc .vmem S32x72x128 .f32)
  (wf : Buf (Elt F) (wo.view.loc (c : Thread nD τ))) (sf : Buf (Elt F) (sb.view.loc (c : Thread nD τ)))

theorem outHead_wp (b : Fin 2) (h : Fin 8) (acc : FVec F S256x768 .f32) :
    iprop(own c sb Finset.univ fullShare sf ∗ own c wo Finset.univ fullShare wf)
      ⊢ wpc c (outHead wo sb b h acc) fun a => iprop(⌜a = outStep acc (rdC 0 (pcOf b h 0).val 1 64 (pcOf b h 0).isLt (by decide) (look sb sf))
          (rdC 0 (pcOf b h 1).val 1 64 (pcOf b h 1).isLt (by decide) (look sb sf)) (rdC 65 (pcOf b h 0).val 1 1 (pcOf b h 0).isLt (by decide) (look sb sf))
          (rdC 65 (pcOf b h 1).val 1 1 (pcOf b h 1).isLt (by decide) (look sb sf)) (fun j => look wo wf ((rWo h).emb j))⌝
        ∗ own c sb Finset.univ fullShare sf ∗ own c wo Finset.univ fullShare wf) := by
  unfold outHead
  refine load_seq c sb (rO (pcOf b h 0)) _ Finset.univ (Finset.subset_univ _) fullShare sf _ _ _ ?_
  refine load_seq c sb (rO (pcOf b h 1)) _ Finset.univ (Finset.subset_univ _) fullShare sf _ _ _ ?_
  refine load_seq c sb (rL (pcOf b h 0)) _ Finset.univ (Finset.subset_univ _) fullShare sf _ _ _ ?_
  refine load_seq c sb (rL (pcOf b h 1)) _ Finset.univ (Finset.subset_univ _) fullShare sf _ _ _ ?_
  refine swap.trans (load_seq c wo (rWo h) _ Finset.univ (Finset.subset_univ _) fullShare wf _ _ _ ?_)
  unfold wpc
  rw [wp_pure]
  iintro ⟨H1, H2⟩
  imodintro
  isplitr; · ipureintro; rfl
  isplitl [H2] <;> iassumption

/-- The first `n` batch rows of the result are there. -/
def outDone (n : Nat) : sProp 𝕄 :=
  iprop(∃ f, ⌜∀ i : S2x256x768.Idx, (i 0).val < n → look o f i = outVal (look sb sf) (look wo wf) i⌝ ∗ own c o Finset.univ fullShare f)

theorem outBatch_wp (b : Fin 2) :
    iprop(outDone c wo o sb wf sf b.val ∗ own c sb Finset.univ fullShare sf ∗ own c wo Finset.univ fullShare wf)
      ⊢ wpc c (outBatch wo o sb b) fun _ => iprop(outDone c wo o sb wf sf (b.val + 1) ∗ own c sb Finset.univ fullShare sf ∗ own c wo Finset.univ fullShare wf) := by
  unfold outBatch
  refine swap.trans (seq_wp c (repAcc_wp c iprop(own c sb Finset.univ fullShare sf ∗ own c wo Finset.univ fullShare wf) 8 (outHead wo sb b) _ _
    (fun h a => outHead_wp c wo sb wf sf b h a)) fun a => ?_)
  unfold outDone
  iintro ⟨⟨%e, Hin⟩, ⟨%f, %hf, H⟩⟩
  iapply (((sep_mono_left (put_wp c o (rX b) h_S1x256x768 _ Finset.univ (Finset.subset_univ _) f)).trans (wp_frame_r _ _ _)).trans
    (wp_mono _ _ _ (Q' := fun _ => iprop((∃ f, ⌜∀ i : S2x256x768.Idx, (i 0).val < b.val + 1 → look o f i = outVal (look sb sf) (look wo wf) i⌝ ∗ own c o Finset.univ fullShare f)
      ∗ own c sb Finset.univ fullShare sf ∗ own c wo Finset.univ fullShare wf)) fun _ => sep_mono_left ?_)) $$ [H Hin]
  rotate_left
  · isplitl [H] <;> iassumption
  iintro H
  iexists _
  isplitr
  rotate_left
  · iexact H
  ipureintro
  intro i hi
  by_cases hb : (i 0).val = b.val
  · have ei : i = (rX b).emb (ix3 (0 : Fin 1) ⟨(i 1).val, (i 1).isLt⟩ ⟨(i 2).val, (i 2).isLt⟩) := by
      funext y
      refine Fin.ext ?_
      rw [Rect.emb_apply]
      fin_cases y <;> simp [ix3] <;> omega
    conv_lhs => rw [ei]
    rw [look_write_in]
    unfold outVal
    have eb : (⟨(i 0).val, (i 0).isLt⟩ : Fin 2) = b := Fin.ext hb
    rw [eb, e]
    show shapeCast S1x256x768 (outRow (look sb sf) (look wo wf) b) _ _ = _
    generalize outRow (look sb sf) (look wo wf) b = v
    simp only [pointwise]
  · rw [look_write_out o (rX b) f _ i fun hm => hb (by have := (Rect.mem_set_unit.1 hm) 0; have h1 := this.1; have h2 := this.2; simp at h1 h2; omega)]
    exact hf i (by omega)

/-- The result, batch row by batch row. -/
theorem out_wp (f : Buf (Elt F) (o.view.loc (c : Thread nD τ))) :
    iprop(own c o Finset.univ fullShare f ∗ own c sb Finset.univ fullShare sf ∗ own c wo Finset.univ fullShare wf)
      ⊢ wpc c (rep 2 (outBatch wo o sb)) fun _ => iprop((∃ f, ⌜look o f = outVal (look sb sf) (look wo wf)⌝ ∗ own c o Finset.univ fullShare f)
          ∗ own c sb Finset.univ fullShare sf ∗ own c wo Finset.univ fullShare wf) := by
  have h := rep_wp' c 2 (outBatch wo o sb)
    (fun n => iprop(outDone c wo o sb wf sf n ∗ own c sb Finset.univ fullShare sf ∗ own c wo Finset.univ fullShare wf)) (fun t => outBatch_wp c wo o sb wf sf t)
  refine BIBase.Entails.trans (sep_mono_left ?_) (mono_wp c h fun _ => sep_mono_left ?_)
  · unfold outDone
    iintro H
    iexists f
    isplitr; · ipureintro; intro i hi; exact absurd hi (Nat.not_lt_zero _)
    iexact H
  · unfold outDone
    iintro ⟨%g, %hg, H⟩
    iexists g
    isplitr; · ipureintro; funext i; exact hg i (i 0).isLt
    iexact H

end Out

end Run

end Cert.KernelIdeal.Att

end
-- ==== Proof.Proto.lean ====
/- The protocol between the devices: which semaphore cells there are, what each arrival hands over
   and with what contents, what a device owes its peers, and why its waits end. -/
module

public import proofs.«01_k».proof.Proof.Buf

@[expose] public section

set_option maxRecDepth 16384

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ### Peers -/

theorem peer_peer : ∀ (c : Dev nD) (t : Fin 31), peer (peer c t) t = c := by decide +kernel
theorem me_inj : Function.Injective me := fun a b h => Fin.ext (congrArg Fin.val h)
theorem peer_inj : ∀ c : Dev nD, Function.Injective (peer c) := by
  have h : ∀ (c : Dev nD) (t t' : Fin 31), peer c t = peer c t' → t = t' := by decide +kernel
  exact fun c t t' e => h c t t' e
theorem peer_ne : ∀ (c : Dev nD) (t : Fin 31), me (peer c t) ≠ me c := by decide +kernel
theorem all_pieces : ∀ (c : Dev nD), (Finset.univ : Finset (Fin 32))
    = insert (me c) (Finset.univ.map ⟨fun t => me (peer c t), fun _ _ h => peer_inj c (me_inj h)⟩) := by decide +kernel
theorem all_slots : (Finset.univ : Finset (Fin 32)) = insert 31 (Finset.univ.map ⟨slot, Fin.castSucc_injective 31⟩) := by decide +kernel

/-- Everything about the 32 pieces is what concerns the own piece and what concerns the peers'; -/
theorem bigSep_pieces (c : Dev nD) (Φ : Fin 32 → sProp 𝕄) :
    bigSep Finset.univ Φ = iprop(Φ (me c) ∗ bigSep Finset.univ fun t : Fin 31 => Φ (me (peer c t))) := by
  rw [all_pieces c, bigSep_insert (by
    intro h
    obtain ⟨t, -, e⟩ := Finset.mem_map.mp h
    exact peer_ne c t e), bigSep_map]
  rfl
/-- and everything about the 32 slots what concerns the last one and what concerns the others. -/
theorem bigSep_slots (Φ : Fin 32 → sProp 𝕄) :
    bigSep Finset.univ Φ = iprop(Φ 31 ∗ bigSep Finset.univ fun t : Fin 31 => Φ (slot t)) := by
  rw [all_slots, bigSep_insert (by
    intro h
    obtain ⟨t, -, e⟩ := Finset.mem_map.mp h
    exact absurd (congrArg Fin.val e) (by show t.val ≠ 31; omega)), bigSep_map]
  rfl

/-! ### Cells -/

abbrev sbM : Memref sig .tc .vmem S32x72x128 .f32 := Memref.whole cc0_scratch0
abbrev rbM : Memref sig .tc .vmem S32x72x128 .f32 := Memref.whole cc0_scratch1
/-- Piece `p` of the pieces' buffer, and slot `p` of the receive buffer. -/
abbrev sbP (p : Fin 32) : Memref sig .tc .vmem S1x72x128 .f32 := sbM.slice (rP p) (fun _ => rfl)
abbrev rbP (p : Fin 32) : Memref sig .tc .vmem S1x72x128 .f32 := rbM.slice (rP p) (fun _ => rfl)

/-- What the transfer of a piece credits. -/
def N : ℕ := (sbP 0).view.dmaCredit
theorem N_sb (p : Fin 32) : (sbP p).view.dmaCredit = N := rfl
theorem N_rb (p : Fin 32) : (rbP p).view.dmaCredit = N := rfl
theorem N_pos : 0 < N := View.dmaCredit_pos _ h_S1x72x128

abbrev barS : Sem sig := (SemArray.scalar (sig.barrier 0 rfl) : Sems sig S_).sem

/-- A device's cells: the barrier's, and four times 31 of transfers: parts left, parts received,
    combined pieces left, combined pieces received. -/
abbrev Key := Option (Fin 4 × Fin 31)
def csem : Key → SemLoc sig
  | none => .reg barS
  | some (⟨0, _⟩, t) => .dma (semAt cc0_scratch2 t)
  | some (⟨1, _⟩, t) => .dma (semAt cc0_scratch3 t)
  | some (⟨2, _⟩, t) => .dma (semAt cc0_scratch4 t)
  | some (⟨3, _⟩, t) => .dma (semAt cc0_scratch5 t)
/-- Which of them a semaphore is, if any. -/
def role : SemLoc sig → Option Key
  | .reg s => if SemLoc.reg s = csem none then some none else none
  | .dma q => if h : 6 ≤ q.val ∧ q.val < 130 then some (some (⟨(q.val - 6) / 31, by omega⟩, ⟨(q.val - 6) % 31, by omega⟩)) else none
theorem role_csem : ∀ k, role (csem k) = some k := by decide +kernel
theorem role_stage : ∀ q : DmaSem sig, q.val < 6 → role (.dma q) = none := by decide +kernel
theorem csem_inj : Function.Injective csem := fun a b h => by
  have := congrArg role h
  rw [role_csem, role_csem] at this
  exact Option.some.inj this

abbrev kcell (c : Dev nD) (k : Key) : GSem nD τ sig := ((c : Thread nD τ), csem k)
theorem kcell_inj {c d : Dev nD} {k l : Key} (h : kcell c k = kcell d l) : c = d ∧ k = l :=
  ⟨congrArg (fun g : GSem nD τ sig => g.1.1) h, csem_inj (congrArg Prod.snd h)⟩
abbrev leftK (t : Fin 31) : Key := some (0, t)
abbrev gotK (t : Fin 31) : Key := some (1, t)
abbrev leftAllK (t : Fin 31) : Key := some (2, t)
abbrev gotAllK (t : Fin 31) : Key := some (3, t)

/-! ### Contents -/

/-- The device whose part of piece `p` slot `s` of device `p` receives. -/
def srcOf (p : Dev nD) (s : Fin 32) : Dev nD := if h : s.val < 31 then peer p ⟨s.val, h⟩ else p

/-- The parts of its piece that device `p` collects, given every device's partial results. -/
def slotBuf (hb : Dev nD → Big F) (p : Dev nD) : Big F := fun i =>
  hb (srcOf p ⟨(i 0).val, (i 0).isLt⟩) (ix3 (me p) ⟨(i 1).val, (i 1).isLt⟩ ⟨(i 2).val, (i 2).isLt⟩)

/-- The combined pieces. -/
def finBuf (hb : Dev nD → Big F) : Big F := fun i =>
  tree (slotBuf hb ⟨(i 0).val, (i 0).isLt⟩) (ix3 (0 : Fin 32) ⟨(i 1).val, (i 1).isLt⟩ ⟨(i 2).val, (i 2).isLt⟩)

/-- Two contents agree on the rows in use of one piece. -/
def OnPc (p : Fin 32) (f g : Big F) : Prop := ∀ i : S32x72x128.Idx, (i 0).val = p.val → (i 1).val < 66 → f i = g i

/-- The elements of a piece. -/
def piece (p : Fin 32) : Finset S32x72x128.Idx := (rP p).set

theorem mem_piece {p : Fin 32} {i : S32x72x128.Idx} : i ∈ piece p ↔ (i 0).val = p.val := by
  unfold piece
  rw [Rect.mem_set_unit]
  constructor
  · intro h
    have := h 0
    simp at this
    omega
  · intro h a
    have h1 : (i 1).val < 72 := (i 1).isLt
    have h2 : (i 2).val < 128 := (i 2).isLt
    fin_cases a <;> simp <;> omega
theorem piece_disj : ∀ p q : Fin 32, p ≠ q → Disjoint (piece p) (piece q) := fun p q h =>
  Finset.disjoint_left.2 fun i hi hj => h (Fin.ext ((mem_piece.1 hi).symm.trans (mem_piece.1 hj)))
theorem piece_cover : Finset.univ.biUnion piece = (Finset.univ : Finset S32x72x128.Idx) :=
  Finset.eq_univ_iff_forall.2 fun i => Finset.mem_biUnion.2 ⟨⟨(i 0).val, (i 0).isLt⟩, Finset.mem_univ _, mem_piece.2 rfl⟩

theorem set_sbP (p : Fin 32) : (sbP p).view.set = piece p := by
  show (sbM.view.slice (rP p)).set = _
  rw [View.set_slice]; exact Finset.map_refl
theorem set_rbP (p : Fin 32) : (rbP p).view.set = piece p := by
  show (rbM.view.slice (rP p)).set = _
  rw [View.set_slice]; exact Finset.map_refl

/-- Piece `p` of device `c`'s pieces' buffer, and slot `p` of its receive buffer, owned. -/
def sOwn (c : Dev nD) (p : Fin 32) (q : PosShare TreeShare) (f : Big F) : sProp 𝕄 := ((c : Thread nD τ).loc cc0_scratch0) ↦[piece p]{q} f
def rOwn (c : Dev nD) (p : Fin 32) (f : Big F) : sProp 𝕄 := ((c : Thread nD τ).loc cc0_scratch1) ↦[piece p]{fullShare} f

instance sOwn_storable (c : Dev nD) (p q) (f : Big F) : BI.Storable (upEmb : UEmb _ 𝕄) (sOwn c p q f) := by unfold sOwn; infer_instance
instance rOwn_storable (c : Dev nD) (p) (f : Big F) : BI.Storable (upEmb : UEmb _ 𝕄) (rOwn c p f) := by unfold rOwn; infer_instance

/-- The share of its piece a device lends to transfer `t`. -/
abbrev lend (t : Fin 31) : PosShare TreeShare := Transfers.shareTok fullShare 31 t

/-! ### The schedule -/

/-- With its signal, the peer at distance `t + 1` hands over its receive slot `t`. -/
def barPay (c : Dev nD) (t : Fin 31) : sProp 𝕄 := iprop(∃ f, rOwn (peer c t) (slot t) f)
/-- Slot `t` has landed: the peer's part of this device's piece, and the place in the peer's pieces where the combined piece will go. -/
def gotPay (hb : Dev nD → Big F) (c : Dev nD) (t : Fin 31) : sProp 𝕄 :=
  iprop((∃ f, ⌜OnPc (slot t) f (slotBuf hb c)⌝ ∗ rOwn c (slot t) f) ∗ ∃ f, sOwn (peer c t) (me c) fullShare f)
/-- The combined piece has left: the share lent to that transfer comes back. -/
def leftAllPay (c : Dev nD) (t : Fin 31) : sProp 𝕄 := iprop(∃ f, sOwn c (me c) (lend t) f)
/-- The peer's combined piece has landed. -/
def gotAllPay (hb : Dev nD → Big F) (c : Dev nD) (t : Fin 31) : sProp 𝕄 :=
  iprop(∃ f, ⌜OnPc (me (peer c t)) f (finBuf hb)⌝ ∗ sOwn c (me (peer c t)) fullShare f)

def xferPay (hb : Dev nD → Big F) : Fin 4 → Dev nD → Fin 31 → sProp 𝕄
  | ⟨0, _⟩, _, _ => iprop(emp)
  | ⟨1, _⟩, c, t => gotPay hb c t
  | ⟨2, _⟩, c, t => leftAllPay c t
  | ⟨3, _⟩, c, t => gotAllPay hb c t

def dutiesOf : Option Key → Finset (Fin 31)
  | some none => Finset.univ
  | some (some _) => {0}
  | none => ∅
def payOf (hb : Dev nD → Big F) (c : Dev nD) (d : Fin 31) : Option Key → sProp 𝕄
  | some none => barPay c d
  | some (some (j, t)) => xferPay hb j c t
  | none => iprop(emp)

/-- One round: the barrier's cell has one unit from each peer, a transfer's cell one transfer. -/
def rd (hb : Dev nD → Big F) : Rounds.Schedule (GSem nD τ sig) (Fin 31) 𝕄 where
  duties g r := if r = 0 ∧ g.1.2 = .tc then dutiesOf (role g.2) else ∅
  unitless _ := False
  amount g _ _ := if role g.2 = some none then 1 else N
  payload g _ d := payOf hb g.1.1 d (role g.2)
  amount_pos g _ _ _ := by
    split
    · exact Nat.one_pos
    · exact N_pos

instance rd_storable (hb : Dev nD → Big F) (g : GSem nD τ sig) (r : ℕ) (d : Fin 31) :
    BI.Storable (upEmb : UEmb _ 𝕄) ((rd hb).payload g r d) := by
  show BI.Storable upEmb (payOf hb g.1.1 d (role g.2))
  generalize role g.2 = k
  rcases k with _ | _ | ⟨j, t⟩
  · unfold payOf; infer_instance
  · unfold payOf barPay; infer_instance
  · fin_cases j
    · show BI.Storable upEmb iprop(emp); infer_instance
    · show BI.Storable upEmb (gotPay hb g.1.1 t); unfold gotPay; infer_instance
    · show BI.Storable upEmb (leftAllPay g.1.1 t); unfold leftAllPay; infer_instance
    · show BI.Storable upEmb (gotAllPay hb g.1.1 t); unfold gotAllPay; infer_instance

section Sched
variable (hb : Dev nD → Big F) (c : Dev nD)

theorem duties_bar : (rd hb).duties (kcell c none) 0 = Finset.univ := by
  show (if (0 : ℕ) = 0 ∧ (c : Thread nD τ).2 = .tc then dutiesOf (role (csem none)) else ∅) = _
  rw [if_pos ⟨rfl, rfl⟩, role_csem]; rfl
theorem duties_x (jt : Fin 4 × Fin 31) : (rd hb).duties (kcell c (some jt)) 0 = {0} := by
  show (if (0 : ℕ) = 0 ∧ (c : Thread nD τ).2 = .tc then dutiesOf (role (csem (some jt))) else ∅) = _
  rw [if_pos ⟨rfl, rfl⟩, role_csem]; rfl
theorem duties_later (g : GSem nD τ sig) : ∀ r, 1 ≤ r → (rd hb).duties g r = ∅ := fun r hr => if_neg fun h => by omega
theorem amount_bar (d : Fin 31) : (rd hb).amount (kcell c none) 0 d = 1 := by
  show (if role (csem none) = some none then 1 else N) = 1
  rw [role_csem]; exact if_pos rfl
theorem amount_x (jt : Fin 4 × Fin 31) (d : Fin 31) : (rd hb).amount (kcell c (some jt)) 0 d = N := by
  show (if role (csem (some jt)) = some none then 1 else N) = N
  rw [role_csem]; exact if_neg (by simp)
theorem payload_bar (d : Fin 31) : (rd hb).payload (kcell c none) 0 d = barPay c d := by
  show payOf hb c d (role (csem none)) = _
  rw [role_csem]; rfl
theorem payload_x (j : Fin 4) (t d : Fin 31) : (rd hb).payload (kcell c (some (j, t))) 0 d = xferPay hb j c t := by
  show payOf hb c d (role (csem (some (j, t)))) = _
  rw [role_csem]; rfl
theorem expect_bar : (rd hb).expect (kcell c none) 0 = 31 := by
  unfold Schedule.expect Schedule.amountOf
  rw [duties_bar, Finset.sum_congr rfl fun d _ => amount_bar hb c d, Finset.sum_const, Finset.card_univ, Fintype.card_fin, smul_eq_mul]
theorem expect_x (jt : Fin 4 × Fin 31) : (rd hb).expect (kcell c (some jt)) 0 = N := by
  unfold Schedule.expect Schedule.amountOf
  rw [duties_x, Finset.sum_singleton, amount_x]
theorem rest_bar : bigSep ((rd hb).duties (kcell c none) 0 \ ∅) (fun d => (rd hb).payload (kcell c none) 0 d) = bigSep Finset.univ fun t => barPay c t := by
  rw [Finset.sdiff_empty, duties_bar]
  exact bigSep_congr fun d _ => payload_bar hb c d
theorem rest_x (j : Fin 4) (t : Fin 31) :
    bigSep ((rd hb).duties (kcell c (some (j, t))) 0 \ ∅) (fun d => (rd hb).payload (kcell c (some (j, t))) 0 d) = xferPay hb j c t := by
  rw [Finset.sdiff_empty, duties_x, bigSep_singleton, payload_x]

end Sched

/-! ### What a device owes, and why its waits end -/

abbrev Tally := CellTallies nD τ sig Unit

def oBar (c : Dev nD) (t : Fin 31) : Tally := tallyAt (kcell (peer c t) none) () 1
def oGot (c : Dev nD) (t : Fin 31) : Tally := tallyAt (kcell (peer c t) (gotK t)) () N
def oAll (c : Dev nD) (t : Fin 31) : Tally := tallyAt (kcell (peer c t) (gotAllK t)) () N
/-- What is still owed when the turns below `n` are over. -/
def osum (g : Fin 31 → Tally) (n : ℕ) : Tally := ∑ t ∈ Finset.univ.filter (fun t : Fin 31 => n ≤ t.val), g t
/-- A device owes every peer a signal, a part and a combined piece. -/
def O₀ (c : Dev nD) : Tally := osum (oAll c) 0 + osum (oGot c) 0 + osum (oBar c) 0

theorem osum_succ (g : Fin 31 → Tally) (t : Fin 31) : osum g t.val = osum g (t.val + 1) + g t := by
  unfold osum
  rw [show (Finset.univ.filter fun s : Fin 31 => t.val ≤ s.val) = insert t (Finset.univ.filter fun s : Fin 31 => t.val + 1 ≤ s.val) from by
    ext s; simp only [Finset.mem_filter, Finset.mem_univ, true_and, Finset.mem_insert, Fin.ext_iff]; omega]
  rw [Finset.sum_insert (by simp), add_comm]
theorem osum_end (g : Fin 31 → Tally) : osum g 31 = 0 := by
  unfold osum
  rw [Finset.filter_false_of_mem fun t _ => by have := t.isLt; omega, Finset.sum_empty]

/-- The levels: a cell's wait may be pending only on cells above it. -/
def lvOf : Option Key → ℕ
  | some none => 1
  | some (some (j, _)) => if j = 1 then 2 else if j = 3 then 3 else 0
  | none => 0
def L (g : GSem nD τ sig) : Finset Unit := if g.1.2 = .tc then {()} else ∅
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed is owed to cells above level `n`. -/
def Above (n : ℕ) (O : Tally) : Prop := ∀ g u, 0 < O g u → ∃ d k, g = kcell d k ∧ n < lvOf (some k)

theorem above_zero (n : ℕ) : Above n 0 := fun g u h => absurd h (Nat.lt_irrefl 0)
theorem above_add {n : ℕ} {O O' : Tally} (h : Above n O) (h' : Above n O') : Above n (O + O') := fun g u hg => by
  rw [Pi.add_apply, Finsupp.add_apply] at hg
  rcases Nat.eq_zero_or_pos (O g u) with e | e
  · exact h' g u (by omega)
  · exact h g u e
theorem above_at {n : ℕ} (d : Dev nD) (k : Key) (m : ℕ) (h : n < lvOf (some k)) : Above n (tallyAt (kcell d k) () m) := fun g u hg =>
  ⟨d, k, (Pipeline.tallyAt_pos hg).1, h⟩
theorem above_sum {n : ℕ} {g : Fin 31 → Tally} (h : ∀ t, Above n (g t)) (m : ℕ) : Above n (osum g m) := by
  unfold osum
  refine Finset.sum_induction g (Above n) (fun _ _ => above_add) (above_zero n) fun t _ => h t

theorem above_bar (c : Dev nD) (m : ℕ) : Above 0 (osum (oBar c) m) := above_sum (fun t => above_at _ _ _ (by decide)) m
theorem above_got (c : Dev nD) (m : ℕ) : Above 1 (osum (oGot c) m) := above_sum (fun t => above_at _ _ _ (by simp [lvOf])) m
theorem above_all (c : Dev nD) (m : ℕ) : Above 2 (osum (oAll c) m) := above_sum (fun t => above_at _ _ _ (by simp [lvOf])) m
theorem above_mono {n m : ℕ} (h : n ≤ m) {O : Tally} (hO : Above m O) : Above n O := fun g u hg => by
  obtain ⟨d, k, e, hk⟩ := hO g u hg
  exact ⟨d, k, e, by omega⟩
theorem above_O₀ (c : Dev nD) : Above 0 (O₀ c) :=
  above_add (above_add (above_mono (by decide) (above_all c 0)) (above_mono (by decide) (above_got c 0))) (above_bar c 0)

/-- A wait on a cell at level `n` while everything owed is above it. -/
theorem mayWait (c : Dev nD) (sm : SemLoc sig) (n : ℕ) (hsm : lvOf (role sm) ≤ n) (O : Tally) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; exact Finset.mem_singleton_self _)
    (fun p hp => by rw [Finset.mem_singleton.mp hp]; exact hsm)
    (fun g u hg => by obtain ⟨d, k, rfl, h⟩ := hO g u hg; show n < lvOf (role (csem k)); rw [role_csem]; exact h)

end Cert.KernelIdeal.Att

end
-- ==== Proof.Comm.lean ====
/- The parts of the body that talk to the peers, each run under the protocol. -/
module

public import proofs.«01_k».proof.Proof.Proto

@[expose] public section

set_option maxRecDepth 16384

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (hb : Dev nD → Big F) (K : Dev nD × Key → ℕ) (c : Dev nD)

/-- What every device knows of every cell: its invariant, and that its round is open; -/
def cells : sProp 𝕄 :=
  iprop((bigSep Finset.univ fun ck : Dev nD × Key => cellInv ER (rd hb) (K ck) (kcell ck.1 ck.2))
    ∗ bigSep Finset.univ fun ck : Dev nD × Key => reached ER (kcell ck.1 ck.2) 0)
/-- and the cells' levels. -/
def records : sProp 𝕄 := iprop(cells hb K ∗ levAts L lv)

instance cells_persistent : BI.Persistent (cells hb K) := by unfold cells; infer_instance
instance records_persistent : BI.Persistent (records hb K) := by unfold records; infer_instance

theorem rec_inv (k : Key) : records hb K ⊢ cellInv ER (rd hb) (K (c, k)) (kcell c k) := by
  unfold records cells
  refine BIBase.Entails.trans ?_ (bigSep_elim (Φ := fun ck : Dev nD × Key => (cellInv ER (rd hb) (K ck) (kcell ck.1 ck.2) : sProp 𝕄)) (Finset.mem_univ (c, k)))
  iintro ⟨⟨H, -⟩, -⟩
  iexact H
theorem rec_open (k : Key) : records hb K ⊢ reached ER (kcell c k) 0 := by
  unfold records cells
  refine BIBase.Entails.trans ?_ (bigSep_elim (Φ := fun ck : Dev nD × Key => (reached ER (kcell ck.1 ck.2) 0 : sProp 𝕄)) (Finset.mem_univ (c, k)))
  iintro ⟨⟨-, H⟩, -⟩
  iexact H
theorem rec_lev : records hb K ⊢ (levAts L lv : sProp 𝕄) := by
  unfold records
  iintro ⟨-, H⟩
  iexact H

/-- What the device still owes. -/
def owing (O : Tally) : sProp 𝕄 := iprop(∃ W, owes (c : Thread nD τ) O W)

/-- The state that the communicating loops carry along. -/
abbrev st (O : Tally) : sProp 𝕄 := iprop(records hb K ∗ owing c O)

/-! ### Waits -/

theorem wait_wp (j : Fin 4) (t : Fin 31) (q : DmaSem sig) (hq : csem (some (j, t)) = .dma q)
    (src dst : Memref sig .tc .vmem S1x72x128 .f32) (hd : dst.view.dmaCredit = N) (h₁ : src.view.WordExact) (h₂ : dst.view.WordExact)
    (n : ℕ) (O : Tally) (hn : lvOf (some (some (j, t))) ≤ n) (hO : Above n O) :
    iprop(st hb K c O ∗ (cred (tallyAt (kcell c (some (j, t))) () N) ∗ atPos ER (kcell c (some (j, t))) 0 ∅ 0))
      ⊢ wpc c (Prog.lift (.waitDma2 q src dst h₁ h₂)) fun _ => iprop(st hb K c O ∗ (semVal (kcell c (some (j, t))) 0 ∗ xferPay hb j c t)) := by
  have hI := rec_inv hb K c (some (j, t))
  have hrest := rest_x hb c j t
  have hk : 0 + dst.view.dmaCredit = (rd hb).expect (kcell c (some (j, t))) 0 := by rw [hd, expect_x, Nat.zero_add]
  have hm := mayWait (F := F) c (.dma q) n (by rw [← hq, role_csem]; exact hn) O hO
  unfold kcell at hI hrest hk ⊢
  rw [hq] at hI hrest hk ⊢
  unfold wpc Prog.lift st owing
  iintro ⟨⟨#HR, ⟨%W, HO⟩⟩, Hc, Hat⟩
  iapply (Rounds.wp_wait_rest_token 𝒱₀ ER (rd hb) (c : Thread nD τ) none (κ := K (c, some (j, t)))
      (wpE_waitDma2_eq 𝒱₀ (c : Thread nD τ) none Set.univ) (Set.mem_univ _) () (O := O) (W := W) (R := 0) (m := 0) (T := ∅) hk) $$ [Hc HO Hat]
  · isplitr; · iapply hI; iexact HR
    isplitl [Hc]; · rw [hd]; iexact Hc
    isplitl [HO]; · iexact HO
    isplitr; · iapply hm; iapply (rec_lev hb K); iexact HR
    iexact Hat
  iintro ⟨HO, Hat, -, Hp⟩
  ihave Hp := (Entails.of_eq hrest) $$ Hp
  imod (Rounds.cell_close ER (rd hb) (Set.mem_univ (K (c, some (j, t)))) (fun h => h) (R := 0 + 1) (duties_later hb _)) $$ [Hat] with Hz
  · isplitr; · iapply hI; iexact HR
    iexact Hat
  rw [wp_ret]
  imodintro
  isplitl [HO]
  · isplitr; · iexact HR
    iexists _; iexact HO
  isplitl [Hz] <;> iassumption

/-- The wait for all 31 signals: the peers' receive slots come with them. -/
theorem bar_wp (O : Tally) (hO : Above 1 O) :
    iprop(st hb K c O ∗ (cred (tallyAt (kcell c none) () 31) ∗ atPos ER (kcell c none) 0 ∅ 0))
      ⊢ wpc c (semWaitWord barS 31#32) fun _ => iprop(st hb K c O ∗ (semVal (kcell c none) 0 ∗ bigSep Finset.univ fun t => barPay c t)) := by
  have hI := rec_inv hb K c none
  have hrest : bigSep ((rd hb).duties ((c : Thread nD τ), SemLoc.reg barS) 0 \ ∅) (fun d => (rd hb).payload ((c : Thread nD τ), SemLoc.reg barS) 0 d)
      = bigSep Finset.univ fun t => barPay c t := rest_bar hb c
  have hk : 0 + (31#32 : BitVec 32).toInt.toNat = (rd hb).expect (kcell c none) 0 := by rw [expect_bar]; decide
  have hm := mayWait (F := F) c (.reg barS) 1 (by rw [show SemLoc.reg barS = csem none from rfl, role_csem]; decide) O hO
  unfold wpc semWaitWord st owing
  iintro ⟨⟨#HR, ⟨%W, HO⟩⟩, Hc, Hat⟩
  iapply (Rounds.wp_wait_rest_token 𝒱₀ ER (rd hb) (c : Thread nD τ) none (κ := K (c, none))
      (wpE_semWait_eq 𝒱₀ (c : Thread nD τ) none Set.univ) (Set.mem_univ _) () (O := O) (W := W) (R := 0) (m := 0) (T := ∅) hk) $$ [Hc HO Hat]
  · isplitr; · iapply hI; iexact HR
    isplitl [Hc]; · iexact Hc
    isplitl [HO]; · iexact HO
    isplitr; · iapply hm; iapply (rec_lev hb K); iexact HR
    iexact Hat
  iintro ⟨HO, Hat, -, Hp⟩
  ihave Hp := (Entails.of_eq hrest) $$ Hp
  imod (Rounds.cell_close ER (rd hb) (Set.mem_univ (K (c, none))) (fun h => h) (R := 0 + 1) (duties_later hb _)) $$ [Hat] with Hz
  · isplitr; · iapply hI; iexact HR
    iexact Hat
  rw [wp_ret]
  imodintro
  isplitl [HO]
  · isplitr; · iexact HR
    iexists _; iexact HO
  isplitl [Hz] <;> iassumption

/-! ### Signals and transfers -/

theorem hello_wp (t : Fin 31) (O : Tally) :
    iprop(st hb K c (O + osum (oBar c) t.val) ∗ (dutyTok ER (kcell (peer c t) none) 0 t ∗ ∃ f, rOwn c (slot t) f))
      ⊢ wpc c (hello c t) fun _ => iprop(st hb K c (O + osum (oBar c) (t.val + 1)) ∗ emp) := by
  have hO : O + osum (oBar c) t.val = (O + osum (oBar c) (t.val + 1)) + tallyAt (kcell (peer c t) none) () 1 := by
    rw [osum_succ, add_assoc]; rfl
  have hp : (rd hb).payload ((peer c t : Thread nD τ), SemLoc.reg barS) 0 t = barPay (peer c t) t := payload_bar hb (peer c t) t
  unfold wpc hello semSignalWord st owing
  iintro ⟨⟨#HR, ⟨%W, HO⟩⟩, Ht, Hr⟩
  iapply (Rounds.wp_signal 𝒱₀ ER (rd hb) (c : Thread nD τ) none (dst := (peer c t : Thread nD τ)) (κ := K (peer c t, none))
      (d := t) (by rw [show ((peer c t : Thread nD τ), SemLoc.reg barS) = kcell (peer c t) none from rfl, duties_bar]; exact Finset.mem_univ _)
      ((amount_bar hb (peer c t) t).trans (by decide)) () (O + osum (oBar c) (t.val + 1)) hO) $$ [HO Ht Hr]
  · isplitr; · iapply (rec_inv hb K (peer c t) none); iexact HR
    isplitl [HO]; · iexact HO
    isplitl [Ht]; · iexact Ht
    isplitl [Hr]
    · iapply (Entails.of_eq hp.symm)
      unfold barPay
      rw [peer_peer]
      iexact Hr
    · iapply (rec_open hb K (peer c t) none); iexact HR
  iintro HO
  rw [wp_ret]
  imodintro
  isplitl [HO]
  · isplitr; · iexact HR
    iexists _; iexact HO
  iempintro

/-- What a transfer of a piece leaves at its destination. -/
theorem moved {m m' : Memref sig .tc .vmem S32x72x128 .f32} (p s : Fin 32) (f : m.view.ty.Contents (Elt F)) (g : m'.view.ty.Contents (Elt F))
    (i : S32x72x128.Idx) (hi : (i 0).val = s.val) :
    look m' ((m'.slice (rP s) (fun _ => rfl)).view.write (Elt F) g ((m.slice (rP p) (fun _ => rfl)).view.read (Elt F) f) Finset.univ) i
      = look m f (ix3 p ⟨(i 1).val, (i 1).isLt⟩ ⟨(i 2).val, (i 2).isLt⟩) := by
  have e (p : Fin 32) (i : S32x72x128.Idx) (hi : (i 0).val = p.val) :
      i = (rP p).emb (ix3 (0 : Fin 1) (⟨(i 1).val, (i 1).isLt⟩ : Fin 72) (⟨(i 2).val, (i 2).isLt⟩ : Fin 128)) := by
    funext y
    refine Fin.ext ?_
    rw [Rect.emb_apply]
    fin_cases y <;> simp [ix3] <;> omega
  have h := look_write_in m' (rP s) g ((m.slice (rP p) (fun _ => rfl)).view.read (Elt F) f) (ix3 (0 : Fin 1) (⟨(i 1).val, (i 1).isLt⟩ : Fin 72) (⟨(i 2).val, (i 2).isLt⟩ : Fin 128))
  rw [← e s i hi] at h
  refine Eq.trans h ?_
  rw [e p (ix3 p ⟨(i 1).val, (i 1).isLt⟩ ⟨(i 2).val, (i 2).isLt⟩) rfl]
  rfl

theorem scatter_wp (t : Fin 31) (O : Tally) :
    iprop(st hb K c (O + osum (oGot c) t.val)
        ∗ (dutyTok ER (kcell c (leftK t)) 0 0 ∗ dutyTok ER (kcell (peer c t) (gotK t)) 0 0
          ∗ (∃ f, ⌜OnPc (me (peer c t)) f (hb c)⌝ ∗ sOwn c (me (peer c t)) fullShare f) ∗ barPay c t))
      ⊢ wpc c (scatterAt sbM rbM cc0_scratch2 cc0_scratch3 ![(me (peer c t)).val, 0, 0] (inb_p (me (peer c t))) c t)
        fun _ => iprop(st hb K c (O + osum (oGot c) (t.val + 1)) ∗ cred (tallyAt (kcell c (leftK t)) () N)) := by
  have hO : O + osum (oGot c) t.val = (O + osum (oGot c) (t.val + 1)) + tallyAt (kcell (peer c t) (gotK t)) () N := by
    rw [osum_succ, add_assoc]; rfl
  unfold wpc scatterAt Prog.lift st owing barPay sOwn rOwn
  rw [← set_sbP, ← set_rbP]
  iintro ⟨⟨#HR, ⟨%W, HO⟩⟩, Ht1, Ht2, ⟨%f, %hf, Hs⟩, ⟨%g, Hr⟩⟩
  iapply (Rounds.wp_send_landing_pointsTo 𝒱₀ ER (rd hb) (c : Thread nD τ) none (c' := (peer c t : Thread nD τ))
      (src := sbP (me (peer c t))) (dst := rbP (slot t)) (q := fullShare) (fs := f) (fd := g)
      (κ₁ := K (c, leftK t)) (κ₂ := K (peer c t, gotK t)) (r₁ := 0) (r₂ := 0) (d₁ := 0) (d₂ := 0)
      (sS := .dma (semAt cc0_scratch2 t)) (sem := .dma (semAt cc0_scratch3 t))
      (by rw [show ((c : Thread nD τ), SemLoc.dma (semAt cc0_scratch2 t)) = kcell c (leftK t) from rfl, duties_x]; exact Finset.mem_singleton_self _)
      (by rw [show ((peer c t : Thread nD τ), SemLoc.dma (semAt cc0_scratch3 t)) = kcell (peer c t) (gotK t) from rfl, duties_x]; exact Finset.mem_singleton_self _)
      () () N (N_rb _) (amount_x hb c (0, t) 0) (amount_x hb (peer c t) (1, t) 0) (O + osum (oGot c) (t.val + 1)) hO (W := W)
      (Entails.of_eq (payload_x hb c 0 t 0).symm)
      (by
        refine BIBase.Entails.trans ?_ (Entails.of_eq (payload_x hb (peer c t) 1 t 0).symm)
        show _ ⊢ gotPay hb (peer c t) t
        unfold gotPay sOwn rOwn
        rw [peer_peer, ← set_sbP, ← set_rbP]
        iintro ⟨H1, H2⟩
        isplitl [H1]
        · iexists _
          isplitr
          rotate_left
          · iexact H1
          ipureintro
          intro i hi h66
          refine (moved (m := sbM) (m' := rbM) (me (peer c t)) (slot t) f g i hi).trans ?_
          refine (hf (ix3 (me (peer c t)) ⟨(i 1).val, (i 1).isLt⟩ ⟨(i 2).val, (i 2).isLt⟩) rfl h66).trans ?_
          unfold slotBuf srcOf
          have h31 : (i 0).val < 31 := by rw [hi]; exact t.isLt
          rw [dif_pos h31, show (⟨(i 0).val, h31⟩ : Fin 31) = t from Fin.ext hi, peer_peer]
        · iexists _; iexact H2)) $$ [HO Ht1 Ht2 Hs Hr]
  · isplitr; · iapply (rec_inv hb K c (leftK t)); iexact HR
    isplitr; · iapply (rec_inv hb K (peer c t) (gotK t)); iexact HR
    isplitl [Hs]; · iexact Hs
    isplitl [Hr]; · iexact Hr
    isplitl [HO]; · iexact HO
    isplitl [Ht1]; · iexact Ht1
    isplitr; · iapply (rec_open hb K c (leftK t)); iexact HR
    isplitl [Ht2]; · iexact Ht2
    iapply (rec_open hb K (peer c t) (gotK t)); iexact HR
  iintro ⟨Hc, HO⟩
  rw [wp_ret]
  imodintro
  isplitl [HO]
  · isplitr; · iexact HR
    iexists _; iexact HO
  iexact Hc

theorem gather_wp (t : Fin 31) (O : Tally) (f : Big F) (hf : OnPc (me c) f (finBuf hb)) :
    iprop(st hb K c (O + osum (oAll c) t.val)
        ∗ (dutyTok ER (kcell c (leftAllK t)) 0 0 ∗ dutyTok ER (kcell (peer c t) (gotAllK t)) 0 0
          ∗ sOwn c (me c) (lend t) f ∗ ∃ g, sOwn (peer c t) (me c) fullShare g))
      ⊢ wpc c (gatherAt sbM cc0_scratch4 cc0_scratch5 ![(me c).val, 0, 0] (inb_p (me c)) c t)
        fun _ => iprop(st hb K c (O + osum (oAll c) (t.val + 1)) ∗ cred (tallyAt (kcell c (leftAllK t)) () N)) := by
  have hO : O + osum (oAll c) t.val = (O + osum (oAll c) (t.val + 1)) + tallyAt (kcell (peer c t) (gotAllK t)) () N := by
    rw [osum_succ, add_assoc]; rfl
  unfold wpc gatherAt Prog.lift st owing sOwn
  rw [← set_sbP]
  iintro ⟨⟨#HR, ⟨%W, HO⟩⟩, Ht1, Ht2, Hs, ⟨%g, Hr⟩⟩
  iapply (Rounds.wp_send_pointsTo 𝒱₀ ER (rd hb) (c : Thread nD τ) none (c' := (peer c t : Thread nD τ))
      (src := sbP (me c)) (dst := sbP (me c)) (q := lend t) (fs := f) (fd := g)
      (κ₁ := K (c, leftAllK t)) (κ₂ := K (peer c t, gotAllK t)) (r₁ := 0) (r₂ := 0) (d₁ := 0) (d₂ := 0)
      (sS := .dma (semAt cc0_scratch4 t)) (sem := .dma (semAt cc0_scratch5 t))
      (by rw [show ((c : Thread nD τ), SemLoc.dma (semAt cc0_scratch4 t)) = kcell c (leftAllK t) from rfl, duties_x]; exact Finset.mem_singleton_self _)
      (by rw [show ((peer c t : Thread nD τ), SemLoc.dma (semAt cc0_scratch5 t)) = kcell (peer c t) (gotAllK t) from rfl, duties_x]; exact Finset.mem_singleton_self _)
      () () N (N_sb _) (amount_x hb c (2, t) 0) (amount_x hb (peer c t) (3, t) 0) (O + osum (oAll c) (t.val + 1)) hO (W := W)
      (by
        refine BIBase.Entails.trans ?_ (Entails.of_eq (payload_x hb c 2 t 0).symm)
        show _ ⊢ leftAllPay c t
        unfold leftAllPay sOwn
        rw [← set_sbP]
        iintro H
        iexists _; iexact H)
      (by
        refine BIBase.Entails.trans ?_ (Entails.of_eq (payload_x hb (peer c t) 3 t 0).symm)
        show _ ⊢ gotAllPay hb (peer c t) t
        unfold gotAllPay sOwn
        rw [peer_peer, ← set_sbP]
        iintro H
        iexists _
        isplitr
        rotate_left
        · iexact H
        ipureintro
        intro i hi h66
        refine (moved (m := sbM) (m' := sbM) (me c) (me c) f g i hi).trans ?_
        refine (hf (ix3 (me c) ⟨(i 1).val, (i 1).isLt⟩ ⟨(i 2).val, (i 2).isLt⟩) rfl h66).trans ?_
        congr 1
        funext x
        fin_cases x
        · exact Fin.ext hi.symm
        · rfl
        · rfl)) $$ [HO Ht1 Ht2 Hs Hr]
  · isplitr; · iapply (rec_inv hb K c (leftAllK t)); iexact HR
    isplitr; · iapply (rec_inv hb K (peer c t) (gotAllK t)); iexact HR
    isplitl [Hs]; · iexact Hs
    isplitl [Hr]; · iexact Hr
    isplitl [HO]; · iexact HO
    isplitl [Ht1]; · iexact Ht1
    isplitr; · iapply (rec_open hb K c (leftAllK t)); iexact HR
    isplitl [Ht2]; · iexact Ht2
    iapply (rec_open hb K (peer c t) (gotAllK t)); iexact HR
  iintro ⟨Hc, HO⟩
  rw [wp_ret]
  imodintro
  isplitl [HO]
  · isplitr; · iexact HR
    iexists _; iexact HO
  iexact Hc

end Cert.KernelIdeal.Att

end
-- ==== Proof.Pieces.lean ====
/- The two buffers held piece by piece, and the steps between the communicating loops. -/
module

public import proofs.«01_k».proof.Proof.Comm
public import Idealize.ShloMosaic.Lib.Ring

@[expose] public section

set_option maxRecDepth 16384

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (hb : Dev nD → Big F) (K : Dev nD × Key → ℕ) (c : Dev nD)

/-! ### Held by pieces -/

/-- The launch's whole buffers are these: -/
abbrev sAll (f : Big F) : sProp 𝕄 := ((c : Thread nD τ).loc cc0_scratch0) ↦[Finset.univ]{fullShare} f
abbrev rAll (f : Big F) : sProp 𝕄 := ((c : Thread nD τ).loc cc0_scratch1) ↦[Finset.univ]{fullShare} f

theorem s_split (f : Big F) : sAll c f = bigSep Finset.univ fun p => sOwn c p fullShare f := by
  unfold sAll sOwn
  have e : (Finset.univ : Finset S32x72x128.Idx) = Finset.univ.biUnion piece := piece_cover.symm
  have h := pointsTo_biUnion (Ix := Unit) (Val := Elt F) (Name := ℕ) (U := UU) (Lvl := ℕ) (ℓ := (c : Thread nD τ).loc cc0_scratch0) (q := fullShare) (f := f)
    (Finset.univ : Finset (Fin 32)) piece fun p _ q _ h => piece_disj p q h
  exact (congrArg (fun I : Finset S32x72x128.Idx => (((c : Thread nD τ).loc cc0_scratch0) ↦[I]{fullShare} f : sProp 𝕄)) e).trans h
theorem r_split (f : Big F) : rAll c f = bigSep Finset.univ fun p => rOwn c p f := by
  unfold rAll rOwn
  have e : (Finset.univ : Finset S32x72x128.Idx) = Finset.univ.biUnion piece := piece_cover.symm
  have h := pointsTo_biUnion (Ix := Unit) (Val := Elt F) (Name := ℕ) (U := UU) (Lvl := ℕ) (ℓ := (c : Thread nD τ).loc cc0_scratch1) (q := fullShare) (f := f)
    (Finset.univ : Finset (Fin 32)) piece fun p _ q _ h => piece_disj p q h
  exact (congrArg (fun I : Finset S32x72x128.Idx => (((c : Thread nD τ).loc cc0_scratch1) ↦[I]{fullShare} f : sProp 𝕄)) e).trans h

theorem s_join (G : Big F) :
    bigSep Finset.univ (fun p => iprop(∃ f, ⌜OnPc p f G⌝ ∗ sOwn c p fullShare f))
      ⊢ (iprop(∃ f, ⌜Same f G⌝ ∗ sAll c f) : sProp 𝕄) := by
  haveI : Nonempty (Big F) := ⟨G⟩
  refine (bigSep_exists_pi Finset.univ fun (p : Fin 32) (f : Big F) => iprop(⌜OnPc p f G⌝ ∗ sOwn c p fullShare f)).trans ?_
  refine exists_elim fun fs => (bigSep_pure_sep Finset.univ (fun p => OnPc p (fs p) G) fun p => sOwn c p fullShare (fs p)).trans ?_
  have hj := pointsTo_biUnion_join (Name := ℕ) (U := UU) (Lvl := ℕ) (Ix := Unit) (ℓ := (c : Thread nD τ).loc cc0_scratch0) (q := fullShare) (Finset.univ : Finset (Fin 32)) piece
    fs (show Buf (Elt F) ((c : Thread nD τ).loc cc0_scratch0) from G) fun p _ q _ h => piece_disj p q h
  unfold sOwn
  iintro ⟨%h, H⟩
  ihave ⟨%g, %hg, H⟩ := hj $$ H
  iexists (show Big F from g)
  isplitr
  · ipureintro
    intro i hi
    have hm : i ∈ piece (⟨(i 0).val, (i 0).isLt⟩ : Fin 32) := mem_piece.2 rfl
    exact (hg ⟨(i 0).val, (i 0).isLt⟩ (Finset.mem_univ _) i hm).trans (h ⟨(i 0).val, (i 0).isLt⟩ (Finset.mem_univ _) i rfl hi)
  · rw [show Finset.univ.biUnion piece = Finset.univ from piece_cover]
    iexact H

theorem r_join (G : Big F) :
    bigSep Finset.univ (fun p => iprop(∃ f, ⌜OnPc p f G⌝ ∗ rOwn c p f))
      ⊢ (iprop(∃ f, ⌜Same f G⌝ ∗ rAll c f) : sProp 𝕄) := by
  haveI : Nonempty (Big F) := ⟨G⟩
  refine (bigSep_exists_pi Finset.univ fun (p : Fin 32) (f : Big F) => iprop(⌜OnPc p f G⌝ ∗ rOwn c p f)).trans ?_
  refine exists_elim fun fs => (bigSep_pure_sep Finset.univ (fun p => OnPc p (fs p) G) fun p => rOwn c p (fs p)).trans ?_
  have hj := pointsTo_biUnion_join (Name := ℕ) (U := UU) (Lvl := ℕ) (Ix := Unit) (ℓ := (c : Thread nD τ).loc cc0_scratch1) (q := fullShare) (Finset.univ : Finset (Fin 32)) piece
    fs (show Buf (Elt F) ((c : Thread nD τ).loc cc0_scratch1) from G) fun p _ q _ h => piece_disj p q h
  unfold rOwn
  iintro ⟨%h, H⟩
  ihave ⟨%g, %hg, H⟩ := hj $$ H
  iexists (show Big F from g)
  isplitr
  · ipureintro
    intro i hi
    have hm : i ∈ piece (⟨(i 0).val, (i 0).isLt⟩ : Fin 32) := mem_piece.2 rfl
    exact (hg ⟨(i 0).val, (i 0).isLt⟩ (Finset.mem_univ _) i hm).trans (h ⟨(i 0).val, (i 0).isLt⟩ (Finset.mem_univ _) i rfl hi)
  · rw [show Finset.univ.biUnion piece = Finset.univ from piece_cover]
    iexact H

/-! ### Shares of the own piece -/

theorem bigSep_ins {I : Type} [DecidableEq I] {T : Finset I} {i : I} (hi : i ∉ T) (Φ : I → sProp 𝕄) :
    bigSep (insert i T) Φ = iprop(Φ i ∗ bigSep T Φ) := bigSep_insert hi

theorem share_split (f : Big F) :
    sOwn c (me c) fullShare f ⊢ (iprop(sOwn c (me c) (Transfers.shareDrop fullShare 31) f
      ∗ bigSep Finset.univ fun t : Fin 31 => sOwn c (me c) (lend t) f) : sProp 𝕄) := by
  unfold sOwn
  exact Transfers.pointsTo_toks_split fullShare 31

theorem share_fix (f : Big F) (T : Finset (Fin 31)) :
    iprop(sOwn c (me c) (Transfers.shareDrop fullShare 31) f ∗ bigSep T fun t : Fin 31 => iprop(∃ g, sOwn c (me c) (lend t) g))
      ⊢ (iprop(sOwn c (me c) (Transfers.shareDrop fullShare 31) f ∗ bigSep T fun t : Fin 31 => sOwn c (me c) (lend t) f) : sProp 𝕄) := by
  induction T using Finset.induction_on with
  | empty => rw [bigSep_empty, bigSep_empty]
  | insert t T ht ih =>
    rw [bigSep_ins ht, bigSep_ins ht]
    iintro ⟨H, ⟨%g, Hg⟩, Hr⟩
    ihave ⟨H, Hr⟩ := ih $$ [H Hr]
    · isplitl [H] <;> iassumption
    have ha : iprop(sOwn c (me c) (Transfers.shareDrop fullShare 31) f ∗ sOwn c (me c) (lend t) g)
        ⊢ (iprop(sOwn c (me c) (Transfers.shareDrop fullShare 31) f ∗ sOwn c (me c) (lend t) f) : sProp 𝕄) := by
      have h : iprop(sOwn c (me c) (Transfers.shareDrop fullShare 31) f ∗ sOwn c (me c) (lend t) g) ⊢ (⌜∀ i ∈ piece (me c), f i = g i⌝ : sProp 𝕄) := by
        unfold sOwn
        refine pointsTo_agree.trans (Laws.pure_mono fun h i hi => (h i (Finset.mem_inter.2 ⟨hi, hi⟩)).1)
      refine (and_intro h .rfl).trans (pure_elim_left fun e => ?_)
      have e' : (sOwn c (me c) (lend t) g : sProp 𝕄) = sOwn c (me c) (lend t) f := by
        unfold sOwn
        exact pointsTo_congr fun i hi => (e i hi).symm
      rw [e']
    ihave ⟨H, Hg⟩ := ha $$ [H Hg]
    · isplitl [H] <;> iassumption
    isplitl [H]; · iexact H
    isplitl [Hg] <;> iassumption

theorem share_join (f : Big F) :
    iprop(sOwn c (me c) (Transfers.shareDrop fullShare 31) f ∗ bigSep Finset.univ fun t : Fin 31 => iprop(∃ g, sOwn c (me c) (lend t) g))
      ⊢ (sOwn c (me c) fullShare f : sProp 𝕄) := by
  refine (share_fix c f Finset.univ).trans ?_
  unfold sOwn
  exact Transfers.pointsTo_toks_join fullShare 31

/-! ### Steps between the loops -/

theorem acc_sb (p : Fin 32) : (sbM.access (rP p)).set = piece p := set_sbP p
theorem acc_rb (p : Fin 32) : (rbM.access (rP p)).set = piece p := set_rbP p

/-- The own piece, into the last slot. -/
theorem ownSlot_wp (f g : Big F) (hf : OnPc (me c) f (hb c)) :
    iprop(sOwn c (me c) fullShare f ∗ rOwn c 31 g)
      ⊢ wpc c (ownSlotAt sbM rbM ![(me c).val, 0, 0] (inb_p (me c)))
        fun _ => iprop(sOwn c (me c) fullShare f ∗ ∃ g', ⌜OnPc 31 g' (slotBuf hb c)⌝ ∗ rOwn c 31 g') := by
  unfold ownSlotAt sOwn rOwn
  refine load_seq c sbM (rP (me c)) _ (piece (me c)) (acc_sb (me c)).subset fullShare f _ _ _ ?_
  rw [shapeCast_self]
  refine swap.trans (((sep_mono_left (put_wp c rbM (rP 31) h_S1x72x128 _ (piece 31) (acc_rb 31).subset g)).trans (wp_frame_r _ _ _)).trans
    (wp_mono _ _ _ fun _ => ?_))
  iintro ⟨H, Hs⟩
  isplitl [Hs]; · iexact Hs
  iexists _
  isplitr
  rotate_left
  · iexact H
  ipureintro
  intro i hi hi1
  have h31 : (i 0).val = 31 := hi
  have hp := look_put rbM 0 31 1 72 (by decide) (by decide) g (fun j => look sbM f ((rP (me c)).emb j)) i
  rw [dif_pos (by omega)] at hp
  refine Eq.trans hp ?_
  have he : (rP (me c)).emb (ix3 (⟨(i 0).val - 31, by omega⟩ : Fin 1) ⟨(i 1).val - 0, by omega⟩ ⟨(i 2).val, (i 2).isLt⟩)
      = ix3 (me c) ⟨(i 1).val, (i 1).isLt⟩ ⟨(i 2).val, (i 2).isLt⟩ := by
    funext y
    refine Fin.ext ?_
    rw [Rect.emb_apply]
    fin_cases y <;> simp [ix3] <;> omega
  have hs : srcOf c ⟨(i 0).val, (i 0).isLt⟩ = c := by unfold srcOf; exact dif_neg (by show ¬ (i 0).val < 31; omega)
  unfold slotBuf
  rw [hs]
  refine Eq.trans (congrArg (look sbM f) he) (hf _ rfl hi1)

/-- The combined piece, back to its place. -/
theorem putBack_wp (g f : Big F) (hg : Same g (tree (slotBuf hb c))) :
    iprop(own c rbM Finset.univ fullShare g ∗ sOwn c (me c) fullShare f)
      ⊢ wpc c (putBackAt sbM rbM ![(me c).val, 0, 0] (inb_b (me c)))
        fun _ => iprop(own c rbM Finset.univ fullShare g ∗ ∃ f', ⌜OnPc (me c) f' (finBuf hb)⌝ ∗ sOwn c (me c) fullShare f') := by
  unfold putBackAt sOwn
  have h66 : 0 + 66 ≤ 72 := by decide
  refine load_seq c rbM (rC 0 0 1 66 (Nat.le_of_ble_eq_true rfl) h66) _ Finset.univ (Finset.subset_univ _) fullShare g _ _ _ ?_
  rw [shapeCast_self]
  have hs : (sbM.access (rC 0 (me c).val 1 66 (me c).isLt h66)).set ⊆ piece (me c) := by
    intro x hx
    have hx' : x ∈ (sbM.view.slice (rC 0 (me c).val 1 66 (me c).isLt h66)).set := hx
    rw [View.set_slice] at hx'
    obtain ⟨i, hi, rfl⟩ := Finset.mem_map.mp hx'
    have := Rect.mem_set_unit.1 hi 0
    refine mem_piece.2 ?_
    have h1 : (me c).val ≤ (i 0).val := this.1
    have h2 : (i 0).val < (me c).val + 1 := this.2
    show (i 0).val = (me c).val
    omega
  refine swap.trans (((sep_mono_left (put_wp c sbM (rC 0 (me c).val 1 66 (me c).isLt h66) h_S1x66x128 _ (piece (me c)) hs f)).trans (wp_frame_r _ _ _)).trans
    (wp_mono _ _ _ fun _ => ?_))
  iintro ⟨H, Hr⟩
  isplitl [Hr]; · iexact Hr
  iexists _
  isplitr
  rotate_left
  · iexact H
  ipureintro
  intro i hi hi1
  have hp := look_put sbM 0 (me c).val 1 66 (me c).isLt h66 f (fun j => look rbM g ((rC 0 0 1 66 (Nat.le_of_ble_eq_true rfl) h66).emb j)) i
  rw [dif_pos (by omega)] at hp
  refine Eq.trans hp ?_
  have he : (rC 0 0 1 66 (Nat.le_of_ble_eq_true rfl) h66).emb (ix3 (⟨(i 0).val - (me c).val, by omega⟩ : Fin 1) ⟨(i 1).val - 0, by omega⟩ ⟨(i 2).val, (i 2).isLt⟩)
      = ix3 (0 : Fin 32) (⟨(i 1).val, (i 1).isLt⟩ : Fin 72) (⟨(i 2).val, (i 2).isLt⟩ : Fin 128) := by
    funext y
    refine Fin.ext ?_
    rw [Rect.emb_apply]
    fin_cases y <;> simp [ix3] <;> omega
  have hc : (⟨(i 0).val, (i 0).isLt⟩ : Dev nD) = c := Fin.ext hi
  unfold finBuf
  rw [hc]
  exact Eq.trans (congrArg (look rbM g) he) (hg _ hi1)

end Cert.KernelIdeal.Att

end
-- ==== Proof.Body.lean ====
/- The whole body, run under the protocol: the communicating loops one after the other, each device
   starting with what the launch gives it and ending with the result in its output window. -/
module

public import proofs.«01_k».proof.Proof.Pieces

@[expose] public section

set_option maxRecDepth 16384

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (hb : Dev nD → Big F) (K : Dev nD × Key → ℕ) (c : Dev nD)

/-! ### Bookkeeping -/

theorem both {I : Type} [Fintype I] (A B : I → sProp 𝕄) :
    iprop(bigSep Finset.univ A ∗ bigSep Finset.univ B) ⊢ (bigSep Finset.univ fun i => iprop(A i ∗ B i)) := Entails.of_eq (bigSep_sep' _ _ _).symm
theorem apart {I : Type} [Fintype I] (A B : I → sProp 𝕄) :
    (bigSep Finset.univ fun i => iprop(A i ∗ B i)) ⊢ iprop(bigSep Finset.univ A ∗ bigSep Finset.univ B) := Entails.of_eq (bigSep_sep' _ _ _)

theorem each {I : Type} [Fintype I] {Φ Ψ : I → sProp 𝕄} (h : ∀ t, Φ t ⊢ Ψ t) : bigSep Finset.univ Φ ⊢ bigSep Finset.univ Ψ := bigSep_mono fun t _ => h t

/-- Everything about a device's cells, kind by kind. -/
theorem bigSep_keys (Φ : Key → sProp 𝕄) :
    bigSep Finset.univ Φ = iprop(Φ none ∗ (bigSep Finset.univ fun t => Φ (leftK t)) ∗ (bigSep Finset.univ fun t => Φ (gotK t))
      ∗ (bigSep Finset.univ fun t => Φ (leftAllK t)) ∗ bigSep Finset.univ fun t => Φ (gotAllK t)) := by
  have e4 : (Finset.univ : Finset (Fin 4)) = insert 0 (insert 1 (insert 2 {3})) := by decide
  rw [bigSep_univ_equiv (Equiv.optionEquivSumPUnit (Fin 4 × Fin 31)).symm Φ, bigSep_univ_sum, bigSep_univ_prod, e4,
    bigSep_insert (by decide), bigSep_insert (by decide), bigSep_insert (by decide), bigSep_singleton]
  rw [show (Finset.univ : Finset PUnit.{1}) = {PUnit.unit} from rfl, bigSep_singleton]
  exact BI.Entails.antisymm BI.sep_comm BI.sep_comm

/-- Each cell's counter at its start; -/
def marks : sProp 𝕄 := bigSep Finset.univ fun k : Key => atPos ER (kcell c k) 0 ∅ 0
/-- the duties of device `c`, by kind; -/
def toks : sProp 𝕄 :=
  iprop((bigSep Finset.univ fun t : Fin 31 => dutyTok ER (kcell (peer c t) none) 0 t)
    ∗ (bigSep Finset.univ fun t : Fin 31 => dutyTok ER (kcell c (leftK t)) 0 0)
    ∗ (bigSep Finset.univ fun t : Fin 31 => dutyTok ER (kcell (peer c t) (gotK t)) 0 0)
    ∗ (bigSep Finset.univ fun t : Fin 31 => dutyTok ER (kcell c (leftAllK t)) 0 0)
    ∗ bigSep Finset.univ fun t : Fin 31 => dutyTok ER (kcell (peer c t) (gotAllK t)) 0 0)
/-- what it may expect from others; -/
def hopes : sProp 𝕄 :=
  iprop(cred (tallyAt (kcell c none) () 31) ∗ (bigSep Finset.univ fun t : Fin 31 => cred (tallyAt (kcell c (gotK t)) () N))
    ∗ bigSep Finset.univ fun t : Fin 31 => cred (tallyAt (kcell c (gotAllK t)) () N))
/-- its semaphores at zero. -/
def zeros : sProp 𝕄 := bigSep Finset.univ fun k : Key => semVal (kcell c k) 0

/-! ### The loops -/

theorem hellos_wp (g : Big F) :
    iprop(st hb K c (O₀ c) ∗ (bigSep Finset.univ fun t : Fin 31 => dutyTok ER (kcell (peer c t) none) 0 t)
        ∗ bigSep Finset.univ fun t : Fin 31 => rOwn c (slot t) g)
      ⊢ wpc c (rep 31 (hello c)) fun _ => st hb K c (osum (oAll c) 0 + osum (oGot c) 0) := by
  refine BIBase.Entails.trans ?_ (mono_wp c (rep_wp c 31 (hello c) (fun n => st hb K c (osum (oAll c) 0 + osum (oGot c) 0 + osum (oBar c) n)) _ _
    fun t => hello_wp hb K c t (osum (oAll c) 0 + osum (oGot c) 0)) fun _ => ?_)
  · iintro ⟨HS, HT, HR⟩
    isplitl [HS]; · unfold O₀; iexact HS
    iapply both
    isplitl [HT]; · iexact HT
    iapply (each (Φ := fun t : Fin 31 => rOwn c (slot t) g) (Ψ := fun t : Fin 31 => iprop(∃ f, rOwn c (slot t) f)) fun t => by iintro H; iexists g; iexact H) $$ HR
  · rw [osum_end, add_zero]
    iintro ⟨HS, -⟩
    iexact HS

theorem scatters_wp :
    iprop(st hb K c (osum (oAll c) 0 + osum (oGot c) 0) ∗ (bigSep Finset.univ fun t : Fin 31 => dutyTok ER (kcell c (leftK t)) 0 0)
        ∗ (bigSep Finset.univ fun t : Fin 31 => dutyTok ER (kcell (peer c t) (gotK t)) 0 0)
        ∗ (bigSep Finset.univ fun t : Fin 31 => iprop(∃ f, ⌜OnPc (me (peer c t)) f (hb c)⌝ ∗ sOwn c (me (peer c t)) fullShare f))
        ∗ bigSep Finset.univ fun t : Fin 31 => barPay c t)
      ⊢ wpc c (rep 31 (fun t => scatterAt sbM rbM cc0_scratch2 cc0_scratch3 ![(me (peer c t)).val, 0, 0] (inb_p (me (peer c t))) c t))
        fun _ => iprop(st hb K c (osum (oAll c) 0) ∗ bigSep Finset.univ fun t : Fin 31 => cred (tallyAt (kcell c (leftK t)) () N)) := by
  refine BIBase.Entails.trans ?_ (mono_wp c (rep_wp c 31 _ (fun n => st hb K c (osum (oAll c) 0 + osum (oGot c) n)) _ _
    fun t => scatter_wp hb K c t (osum (oAll c) 0)) fun _ => ?_)
  · iintro ⟨HS, H1, H2, H3, H4⟩
    isplitl [HS]; · iexact HS
    iapply both; isplitl [H1]; · iexact H1
    iapply both; isplitl [H2]; · iexact H2
    iapply both; isplitl [H3]; · iexact H3
    iexact H4
  · rw [osum_end, add_zero]

theorem gathers_wp (f : Big F) (hf : OnPc (me c) f (finBuf hb)) :
    iprop(st hb K c (osum (oAll c) 0) ∗ (bigSep Finset.univ fun t : Fin 31 => dutyTok ER (kcell c (leftAllK t)) 0 0)
        ∗ (bigSep Finset.univ fun t : Fin 31 => dutyTok ER (kcell (peer c t) (gotAllK t)) 0 0)
        ∗ (bigSep Finset.univ fun t : Fin 31 => sOwn c (me c) (lend t) f)
        ∗ bigSep Finset.univ fun t : Fin 31 => iprop(∃ g, sOwn (peer c t) (me c) fullShare g))
      ⊢ wpc c (rep 31 (gatherAt sbM cc0_scratch4 cc0_scratch5 ![(me c).val, 0, 0] (inb_p (me c)) c))
        fun _ => iprop(st hb K c 0 ∗ bigSep Finset.univ fun t : Fin 31 => cred (tallyAt (kcell c (leftAllK t)) () N)) := by
  refine BIBase.Entails.trans ?_ (mono_wp c (rep_wp c 31 _ (fun n => st hb K c (0 + osum (oAll c) n)) _ _
    fun t => gather_wp hb K c t 0 f hf) fun _ => ?_)
  · iintro ⟨HS, H1, H2, H3, H4⟩
    isplitl [HS]; · rw [zero_add]; iexact HS
    iapply both; isplitl [H1]; · iexact H1
    iapply both; isplitl [H2]; · iexact H2
    iapply both; isplitl [H3]; · iexact H3
    iexact H4
  · rw [osum_end, add_zero]

/-- A loop of waits on the cells of one kind. -/
theorem waits_wp (j : Fin 4) (p : Fin 31 → KProg (F := F) PUnit) (n : ℕ) (O : Tally)
    (h : ∀ t, iprop(st hb K c O ∗ (cred (tallyAt (kcell c (some (j, t))) () N) ∗ atPos ER (kcell c (some (j, t))) 0 ∅ 0))
      ⊢ wpc c (p t) fun _ => iprop(st hb K c O ∗ (semVal (kcell c (some (j, t))) 0 ∗ xferPay hb j c t))) :
    iprop(st hb K c O ∗ (bigSep Finset.univ fun t => cred (tallyAt (kcell c (some (j, t))) () N))
        ∗ bigSep Finset.univ fun t => atPos ER (kcell c (some (j, t))) 0 ∅ 0)
      ⊢ wpc c (rep 31 p) fun _ => iprop(st hb K c O ∗ (bigSep Finset.univ fun t => semVal (kcell c (some (j, t))) 0)
        ∗ bigSep Finset.univ fun t => xferPay hb j c t) := by
  refine BIBase.Entails.trans ?_ (mono_wp c (rep_wp c 31 p (fun _ => st hb K c O) _ _ h) fun _ => ?_)
  · iintro ⟨HS, H1, H2⟩
    isplitl [HS]; · iexact HS
    iapply both; isplitl [H1] <;> iassumption
  · iintro ⟨HS, H⟩
    isplitl [HS]; · iexact HS
    iapply apart; iexact H

theorem gots_wp (t : Fin 31) (off : Fin 3 → Nat) (hi : ∀ a, off a + S1x72x128.size a ≤ S32x72x128.size a) :
    iprop(st hb K c (osum (oAll c) 0) ∗ (cred (tallyAt (kcell c (some (1, t))) () N) ∗ atPos ER (kcell c (some (1, t))) 0 ∅ 0))
      ⊢ wpc c (gotPart sbM rbM cc0_scratch3 off hi t)
        fun _ => iprop(st hb K c (osum (oAll c) 0) ∗ (semVal (kcell c (some (1, t))) 0 ∗ xferPay hb 1 c t)) :=
  wait_wp hb K c 1 t (semAt cc0_scratch3 t) rfl _ (rbP (slot t)) rfl _ _ 2 (osum (oAll c) 0) (Nat.le_refl 2) (above_all c 0)
theorem gotAlls_wp (t : Fin 31) :
    iprop(st hb K c 0 ∗ (cred (tallyAt (kcell c (some (3, t))) () N) ∗ atPos ER (kcell c (some (3, t))) 0 ∅ 0))
      ⊢ wpc c (gotAll sbM ![(me c).val, 0, 0] (inb_p (me c)) cc0_scratch5 t)
        fun _ => iprop(st hb K c 0 ∗ (semVal (kcell c (some (3, t))) 0 ∗ xferPay hb 3 c t)) :=
  wait_wp hb K c 3 t (semAt cc0_scratch5 t) rfl (sbP (me c)) (sbP (me c)) rfl _ _ 3 0 (Nat.le_refl 3) (above_zero 3)
theorem leftAlls_wp (t : Fin 31) :
    iprop(st hb K c 0 ∗ (cred (tallyAt (kcell c (some (2, t))) () N) ∗ atPos ER (kcell c (some (2, t))) 0 ∅ 0))
      ⊢ wpc c (gotAll sbM ![(me c).val, 0, 0] (inb_p (me c)) cc0_scratch4 t)
        fun _ => iprop(st hb K c 0 ∗ (semVal (kcell c (some (2, t))) 0 ∗ xferPay hb 2 c t)) :=
  wait_wp hb K c 2 t (semAt cc0_scratch4 t) rfl (sbP (me c)) (sbP (me c)) rfl _ _ 0 0 (Nat.le_refl 0) (above_zero 0)
theorem lefts_wp (t : Fin 31) :
    iprop(st hb K c 0 ∗ (cred (tallyAt (kcell c (some (0, t))) () N) ∗ atPos ER (kcell c (some (0, t))) 0 ∅ 0))
      ⊢ wpc c (leftPart sbM rbM cc0_scratch2 ![(me (peer c t)).val, 0, 0] (inb_p (me (peer c t))) t)
        fun _ => iprop(st hb K c 0 ∗ (semVal (kcell c (some (0, t))) 0 ∗ xferPay hb 0 c t)) :=
  wait_wp hb K c 0 t (semAt cc0_scratch2 t) rfl _ (sbP (me (peer c t))) rfl _ _ 0 0 (Nat.le_refl 0) (above_zero 0)

/-! ### Running on -/

theorem step {α : Type} {p : KProg (F := F) PUnit} {q : KProg (F := F) α} {P R : sProp 𝕄} {Q : α → sProp 𝕄} (hp : P ⊢ wpc c p fun _ => R) :
    P ⊢ iprop((R -∗ wpc c q Q) -∗ wpc c (p >>= fun _ => q) Q) :=
  BI.wand_intro (seq_wp c hp fun _ => wand_elim_right)
theorem finish {p : KProg (F := F) PUnit} {P R Q : sProp 𝕄} (hp : P ⊢ wpc c p fun _ => R) : P ⊢ iprop((R -∗ Q) -∗ wpc c p fun _ => Q) :=
  BI.wand_intro (((sep_mono_left hp).trans (wp_frame_r _ _ _)).trans (wp_mono _ _ _ fun _ => wand_elim_right))
theorem look_rb (g : Big F) : look rbM g = g := rfl
/-- The five rounds of combining, one after the other. -/
theorem tree_same (g : Big F) (hg : Same g (slotBuf hb c)) (a1 a2 a3 a4 a5 : Big F) (e1 : look rbM a1 = combBuf 16 (by decide) (look rbM g))
    (e2 : look rbM a2 = combBuf 8 (by decide) (look rbM a1)) (e3 : look rbM a3 = combBuf 4 (by decide) (look rbM a2))
    (e4 : look rbM a4 = combBuf 2 (by decide) (look rbM a3)) (e5 : look rbM a5 = combBuf 1 (by decide) (look rbM a4)) :
    Same a5 (tree (slotBuf hb c)) := by
  rw [look_rb] at e1 e2 e3 e4 e5
  rw [look_rb] at e1 e2 e3 e4 e5
  rw [e5, e4, e3, e2, e1]
  exact tree_congr hg
theorem device_wp {α : Type} (k : Dev nD → KProg (F := F) α) (Q : α → sProp 𝕄) : wpc c (k c) Q ⊢ wpc c (Prog.lift .deviceId >>= k) Q := by
  unfold wpc Prog.lift
  simp only [Prog.bind_op, Prog.bind_ret, wp_deviceId]
  exact .rfl

/-! ### The body -/

section Whole
variable (x : Memref sig .tc .vmem S2x256x768 .f32) (wq : Memref sig .tc .vmem S768x512 .f32) (wo : Memref sig .tc .vmem S512x768 .f32)
  (kk vv : Memref sig .tc .vmem S2x512x2x64 .f32) (o : Memref sig .tc .vmem S2x256x768 .f32)
  (xf : Buf (Elt F) (x.view.loc (c : Thread nD τ))) (wf : Buf (Elt F) (wq.view.loc (c : Thread nD τ)))
  (kf : Buf (Elt F) (kk.view.loc (c : Thread nD τ))) (vf : Buf (Elt F) (vv.view.loc (c : Thread nD τ)))
  (wof : Buf (Elt F) (wo.view.loc (c : Thread nD τ))) (of : Buf (Elt F) (o.view.loc (c : Thread nD τ)))

theorem look_sb (g : Big F) : look sbM g = g := rfl
/-- The output, from the combined pieces. -/
theorem last_wp (f3 : Big F) (hf3 : Same f3 (finBuf hb)) :
    iprop(own c o Finset.univ fullShare of ∗ sAll c f3 ∗ own c wo Finset.univ fullShare wof)
      ⊢ wpc c (rep 2 (outBatch wo o sbM)) fun _ =>
        iprop((∃ f, ⌜look o f = outVal (finBuf hb) (look wo wof)⌝ ∗ own c o Finset.univ fullShare f) ∗ sAll c f3 ∗ own c wo Finset.univ fullShare wof) := by
  have h := out_wp c wo o sbM wof f3 of
  rw [look_sb, outVal_congr hf3] at h
  exact h

theorem plain_wp (hhb : hb c = headBuf (look x xf) (look wq wf) (look kk kf) (look vv vf)) (f g : Big F) :
    iprop(records hb K ∗ owing c (O₀ c) ∗ marks c ∗ toks c ∗ hopes c ∗ sAll c f ∗ rAll c g ∗ ins c x wq kk vv xf wf kf vf
        ∗ own c wo Finset.univ fullShare wof ∗ own c o Finset.univ fullShare of)
      ⊢ wpc c (plain x wq wo kk vv o sbM rbM cc0_scratch2 cc0_scratch3 cc0_scratch4 cc0_scratch5) fun _ =>
        iprop(owing c 0 ∗ zeros c ∗ (∃ f, sAll c f) ∗ (∃ g, rAll c g) ∗ ins c x wq kk vv xf wf kf vf ∗ own c wo Finset.univ fullShare wof
          ∗ ∃ f, ⌜look o f = outVal (finBuf hb) (look wo wof)⌝ ∗ own c o Finset.univ fullShare f) := by
  unfold plain
  refine BIBase.Entails.trans ?_ (device_wp c _ _)
  beta_reduce
  unfold marks toks hopes zeros
  rw [bigSep_keys, r_split, bigSep_slots]
  iintro ⟨#HR, HO, ⟨Mb, M0, M1, M2, M3⟩, ⟨Tb, T0, T1, T2, T3⟩, ⟨Cb, C1, C3⟩, Hs, ⟨Hr31, Hr⟩, Hin, Hwo, Ho⟩
  -- the barrier
  iapply (step c (hellos_wp hb K c g)) $$ [HO Tb Hr]
  · isplitl [HO]; · isplitr; · iexact HR
                    iexact HO
    isplitl [Tb] <;> iassumption
  iintro HS
  iapply (step c (bar_wp hb K c _ (above_add (above_mono (Nat.le_succ 1) (above_all c 0)) (above_got c 0)))) $$ [HS Cb Mb]
  · isplitl [HS]; · iexact HS
    isplitl [Cb] <;> iassumption
  iintro ⟨HS, Zb, Hbar⟩
  -- the heads
  iapply (step c (heads_wp c x wq kk vv sbM xf wf kf vf f)) $$ [Hs Hin]
  · isplitl [Hs] <;> iassumption
  iintro ⟨⟨%f1, %hf1, Hs⟩, Hin⟩
  rw [← hhb] at hf1
  ihave Hs := (Entails.of_eq (s_split c f1)) $$ Hs
  ihave Hs := (Entails.of_eq (bigSep_pieces c fun p => sOwn c p fullShare f1)) $$ Hs
  icases Hs with ⟨Hown, Hs⟩
  have hown : OnPc (me c) f1 (hb c) := fun i _ h => hf1 i h
  -- the parts go out
  iapply (step c (scatters_wp hb K c)) $$ [HS T0 T1 Hs Hbar]
  · isplitl [HS]; · iexact HS
    isplitl [T0]; · iexact T0
    isplitl [T1]; · iexact T1
    isplitl [Hs]
    · iapply (each (Φ := fun t : Fin 31 => sOwn c (me (peer c t)) fullShare f1)
        (Ψ := fun t : Fin 31 => iprop(∃ f, ⌜OnPc (me (peer c t)) f (hb c)⌝ ∗ sOwn c (me (peer c t)) fullShare f)) fun t => by
          iintro H; iexists f1; isplitr; · ipureintro; exact fun i _ h => hf1 i h
          iexact H) $$ Hs
    · iexact Hbar
  iintro ⟨HS, C0⟩
  -- and come in
  iapply (step c (waits_wp hb K c 1 _ 2 (osum (oAll c) 0) fun t => gots_wp hb K c t ![(me (peer c t)).val, 0, 0] (inb_p (me (peer c t))))) $$ [HS C1 M1]
  · isplitl [HS]; · iexact HS
    isplitl [C1] <;> iassumption
  iintro ⟨HS, Z1, Hgot⟩
  have hgot : (bigSep Finset.univ fun t => xferPay hb 1 c t)
      ⊢ iprop((bigSep Finset.univ fun t : Fin 31 => iprop(∃ f, ⌜OnPc (slot t) f (slotBuf hb c)⌝ ∗ rOwn c (slot t) f))
        ∗ bigSep Finset.univ fun t : Fin 31 => iprop(∃ f, sOwn (peer c t) (me c) fullShare f)) := apart _ _
  ihave Hgot := hgot $$ Hgot
  icases Hgot with ⟨Hr, Hplace⟩
  -- the own piece
  iapply (step c (ownSlot_wp hb c f1 g hown)) $$ [Hown Hr31]
  · isplitl [Hown] <;> iassumption
  iintro ⟨Hown, Hr31⟩
  ihave Hr := (Entails.of_eq (bigSep_slots fun p => iprop(∃ f, ⌜OnPc p f (slotBuf hb c)⌝ ∗ rOwn c p f)).symm) $$ [Hr Hr31]
  · isplitl [Hr31] <;> iassumption
  ihave ⟨%g1, %hg1, Hr⟩ := (r_join c (slotBuf hb c)) $$ Hr
  -- combining
  iapply (step c (treeStep_wp c rbM 16 (Nat.le_of_ble_eq_true rfl) (Nat.le_of_ble_eq_true rfl) g1)) $$ Hr
  iintro ⟨%a1, %e1, Hr⟩
  iapply (step c (treeStep_wp c rbM 8 (Nat.le_of_ble_eq_true rfl) (Nat.le_of_ble_eq_true rfl) a1)) $$ Hr
  iintro ⟨%a2, %e2, Hr⟩
  iapply (step c (treeStep_wp c rbM 4 (Nat.le_of_ble_eq_true rfl) (Nat.le_of_ble_eq_true rfl) a2)) $$ Hr
  iintro ⟨%a3, %e3, Hr⟩
  iapply (step c (treeStep_wp c rbM 2 (Nat.le_of_ble_eq_true rfl) (Nat.le_of_ble_eq_true rfl) a3)) $$ Hr
  iintro ⟨%a4, %e4, Hr⟩
  iapply (step c (treeStep_wp c rbM 1 (Nat.le_of_ble_eq_true rfl) (Nat.le_of_ble_eq_true rfl) a4)) $$ Hr
  iintro ⟨%g2, %e5, Hr⟩
  have hg2' : Same g2 (tree (slotBuf hb c)) := tree_same hb c g1 hg1 a1 a2 a3 a4 g2 e1 e2 e3 e4 e5
  iapply (step c (putBack_wp hb c g2 f1 hg2')) $$ [Hr Hown]
  · isplitl [Hr] <;> iassumption
  iintro ⟨Hr, ⟨%f2, %hf2, Hown⟩⟩
  ihave ⟨Hkeep, Hlend⟩ := (share_split c f2) $$ Hown
  -- the combined pieces go out
  iapply (step c (gathers_wp hb K c f2 hf2)) $$ [HS T2 T3 Hlend Hplace]
  · isplitl [HS]; · iexact HS
    isplitl [T2]; · iexact T2
    isplitl [T3]; · iexact T3
    isplitl [Hlend] <;> iassumption
  iintro ⟨HS, C2⟩
  iapply (step c (waits_wp hb K c 3 _ 3 0 fun t => gotAlls_wp hb K c t)) $$ [HS C3 M3]
  · isplitl [HS]; · iexact HS
    isplitl [C3] <;> iassumption
  iintro ⟨HS, Z3, Hs⟩
  iapply (step c (waits_wp hb K c 0 _ 0 0 fun t => lefts_wp hb K c t)) $$ [HS C0 M0]
  · isplitl [HS]; · iexact HS
    isplitl [C0] <;> iassumption
  iintro ⟨HS, Z0, -⟩
  iapply (step c (waits_wp hb K c 2 _ 0 0 fun t => leftAlls_wp hb K c t)) $$ [HS C2 M2]
  · isplitl [HS]; · iexact HS
    isplitl [C2] <;> iassumption
  iintro ⟨HS, Z2, Hlend⟩
  have hlend : (bigSep Finset.univ fun t => xferPay hb 2 c t) ⊢ (bigSep Finset.univ fun t : Fin 31 => iprop(∃ g, sOwn c (me c) (lend t) g)) := .rfl
  ihave Hlend := hlend $$ Hlend
  have hall : (bigSep Finset.univ fun t => xferPay hb 3 c t)
      ⊢ (bigSep Finset.univ fun t : Fin 31 => iprop(∃ f, ⌜OnPc (me (peer c t)) f (finBuf hb)⌝ ∗ sOwn c (me (peer c t)) fullShare f)) := .rfl
  ihave Hs := hall $$ Hs
  ihave Hown := (share_join c f2) $$ [Hkeep Hlend]
  · isplitl [Hkeep]; · iexact Hkeep
    iexact Hlend
  ihave Hs := (Entails.of_eq (bigSep_pieces c fun p => iprop(∃ f, ⌜OnPc p f (finBuf hb)⌝ ∗ sOwn c p fullShare f)).symm) $$ [Hs Hown]
  · isplitl [Hown]
    · iexists f2
      isplitr; · ipureintro; exact hf2
      iexact Hown
    · iexact Hs
  ihave ⟨%f3, %hf3, Hs⟩ := (s_join c (finBuf hb)) $$ Hs
  -- the result
  iapply (finish c (last_wp hb c wo o wof of f3 hf3)) $$ [Ho Hs Hwo]
  · isplitl [Ho]; · iexact Ho
    isplitl [Hs]; · iexact Hs
    iexact Hwo
  iintro ⟨Ho, Hs, Hwo⟩
  isplitl [HS]
  · icases HS with ⟨-, H⟩
    iexact H
  isplitl [Zb Z0 Z1 Z2 Z3]
  · iapply (Entails.of_eq (bigSep_keys fun k : Key => semVal (kcell c k) 0).symm)
    isplitl [Zb]; · iexact Zb
    isplitl [Z0]; · iexact Z0
    isplitl [Z1]; · iexact Z1
    isplitl [Z2] <;> iassumption
  isplitl [Hs]; · iexists f3; iexact Hs
  isplitl [Hr]; · iexists g2; iexact Hr
  isplitl [Hin]; · iexact Hin
  isplitl [Hwo] <;> iassumption

end Whole

end Cert.KernelIdeal.Att

end
-- ==== Proof.Deal.lean ====
/- How the launch deals out what the devices need: the cells' invariants, the duties, the credits. -/
module

public import proofs.«01_k».proof.Proof.Body
public import Idealize.ShloMosaic.Lib.Pipeline.Launch
public import Idealize.ShloMosaic.Lib.Pipeline.Kit

@[expose] public section

set_option maxRecDepth 16384

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (hb : Dev nD → Big F)

/-! ### Cells and duties -/

/-- The kernel's own semaphores that are scoped to it. -/
abbrev osem (jt : Fin 4 × Fin 31) : SemLoc sig := csem (some jt)

theorem ownSemFacts : Pipeline.OwnSemFacts cfg0.spec osem := by decide +kernel

def cellAt : Dev nD × Key ↪ GSem nD τ sig := ⟨fun ck => kcell ck.1 ck.2, fun _ _ h => Prod.ext (kcell_inj h).1 (kcell_inj h).2⟩
/-- The cells the devices talk over. -/
def allCells : Finset (GSem nD τ sig) := Finset.univ.map cellAt

/-- The duties of a device's own cells: 31 of its barrier's, one of each transfer's. -/
abbrev Duties := Fin 31 ⊕ Fin 4 × Fin 31
def dutyAt (cx : Dev nD × Duties) : GSem nD τ sig × ℕ × Fin 31 := match cx.2 with
  | .inl d => (kcell cx.1 none, 0, d)
  | .inr jt => (kcell cx.1 (some jt), 0, 0)
theorem dutyAt_inj : Function.Injective dutyAt := by
  rintro ⟨c, x⟩ ⟨d, y⟩ h
  rcases x with x | x <;> rcases y with y | y
  · have h1 := (kcell_inj (congrArg Prod.fst h)).1
    have h2 : x = y := congrArg (fun z : GSem nD τ sig × ℕ × Fin 31 => z.2.2) h
    subst h1; subst h2; rfl
  · exact absurd (kcell_inj (congrArg Prod.fst h)).2 (by simp)
  · exact absurd (kcell_inj (congrArg Prod.fst h)).2 (by simp)
  · obtain ⟨h1, h2⟩ := kcell_inj (congrArg Prod.fst h)
    have h3 : x = y := Option.some.inj h2
    have h4 : c = d := h1
    subst h4; subst h3; rfl
def allDuties : Finset (GSem nD τ sig × ℕ × Fin 31) := Finset.univ.map ⟨dutyAt, dutyAt_inj⟩

/-- What the launch starts from. -/
def seed : UU :=
  (initOf (Pipeline.cells cfgs cellOf_inj) (Pipeline.launchToks cfgs cellOf_inj), initOf allCells allDuties)

/-- The duties of device `c`'s own cells. -/
def minted (c : Dev nD) : sProp 𝕄 :=
  iprop((bigSep Finset.univ fun t : Fin 31 => dutyTok ER (kcell c none) 0 t)
    ∗ bigSep Finset.univ fun jt : Fin 4 × Fin 31 => dutyTok ER (kcell c (some jt)) 0 0)
def opened (c : Dev nD) : sProp 𝕄 := bigSep Finset.univ fun k : Key => reached ER (kcell c k) 0

/-- What device `c` is dealt at first; -/
def share₀ (c : Dev nD) : sProp 𝕄 :=
  iprop((bigSep Finset.univ fun k : Key => roundState ER (rd hb) (kcell c k) 0) ∗ marks c ∗ opened c ∗ minted c)
/-- and what it holds when all have put their semaphores under the protocol. -/
def share₁ (c : Dev nD) : sProp 𝕄 := iprop(∃ K, cells hb K ∗ marks c ∗ toks c)

theorem deal : BI.own (ER (initOf allCells allDuties)) ⊢ (|==> bigSep Finset.univ (share₀ hb) : sProp 𝕄) := by
  have hX (Φ : GSem nD τ sig → sProp 𝕄) : bigSep allCells Φ = bigSep Finset.univ fun c : Dev nD => bigSep Finset.univ fun k : Key => Φ (kcell c k) := by
    unfold allCells; rw [bigSep_map, bigSep_univ_prod]; rfl
  have hT : bigSep allDuties (fun x => (dutyTok ER x.1 x.2.1 x.2.2 : sProp 𝕄)) = bigSep Finset.univ fun c : Dev nD => minted c := by
    unfold allDuties; rw [bigSep_map, bigSep_univ_prod]
    exact bigSep_congr fun c _ => by unfold minted; rw [bigSep_univ_sum]; rfl
  iintro HX
  imod (Rounds.fund ER (rd hb) allCells allDuties) $$ HX with ⟨Hst, Hr, Hat, Htok⟩
  imodintro
  ihave Hst' := (Entails.of_eq (hX fun g => roundState ER (rd hb) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold share₀ marks opened
  rw [bigSep_sep', bigSep_sep', bigSep_sep']
  isplitl [Hst']; · iexact Hst'
  isplitl [Hat']; · iexact Hat'
  isplitl [Hr']; · iexact Hr'
  iexact Htok'

/-! ### The semaphores -/

theorem scoped_eq (c : Dev nD) : (Pipeline.ownSems0 (Ix := Unit) (Name := ℕ) (U := UU) (Lvl := ℕ) (Val := Elt F) (τ := τ) osem c : sProp 𝕄)
    = bigSep Finset.univ fun jt : Fin 4 × Fin 31 => semVal (kcell c (some jt)) 0 := by
  unfold Pipeline.ownSems0; rfl
theorem unscoped_eq (c : Dev nD) : (unscopedSems0 c : sProp 𝕄) = semVal (kcell c none) 0 := by
  unfold unscopedSems0; rw [bigSep_eq_bigSepL_of_eq [SemLoc.reg barS] (by decide) (by decide)]; rfl

theorem zeros_eq (c : Dev nD) : (zeros c : sProp 𝕄)
    = iprop(semVal (kcell c none) 0 ∗ bigSep Finset.univ fun jt : Fin 4 × Fin 31 => semVal (kcell c (some jt)) 0) := by
  unfold zeros
  rw [bigSep_univ_equiv (Equiv.optionEquivSumPUnit (Fin 4 × Fin 31)).symm (fun k : Key => (semVal (kcell c k) 0 : sProp 𝕄)), bigSep_univ_sum,
    show (Finset.univ : Finset PUnit.{1}) = {PUnit.unit} from rfl, bigSep_singleton]
  exact BI.Entails.antisymm BI.sep_comm BI.sep_comm

theorem enter (c : Dev nD) :
    iprop(Pipeline.ownSems0 (Ix := Unit) (Name := ℕ) (U := UU) (Lvl := ℕ) (Val := Elt F) (τ := τ) osem c ∗ unscopedSems0 c ∗ share₀ hb c)
      ⊢ |={Set.univ}=> iprop((bigSep Finset.univ fun k : Key => iprop(∃ κ : ℕ, cellInv ER (rd hb) κ (kcell c k))) ∗ marks c ∗ opened c ∗ minted c) := by
  have halloc : iprop(zeros c ∗ bigSep Finset.univ fun k : Key => roundState ER (rd hb) (kcell c k) 0)
      ⊢ (|={Set.univ}=> bigSep Finset.univ fun k : Key => iprop(∃ κ : ℕ, cellInv ER (rd hb) κ (kcell c k)) : sProp 𝕄) := by
    unfold zeros
    rw [← bigSep_sep']
    exact (bigSep_mono fun k _ => (Rounds.body_intro ER (rd hb) (kcell c k)).trans inv_alloc).trans (bigSep_fupd _ _)
  unfold share₀
  iintro ⟨Hos, Hus, Hst, Hrest⟩
  ihave Hv := (Entails.of_eq (zeros_eq (F := F) c).symm) $$ [Hos Hus]
  · isplitl [Hus]
    · ihave H := (Entails.of_eq (unscoped_eq (F := F) c)) $$ Hus; iexact H
    · ihave H := (Entails.of_eq (scoped_eq (F := F) c)) $$ Hos; iexact H
  imod halloc $$ [Hv Hst] with Hinv
  · isplitl [Hv] <;> iassumption
  imodintro
  isplitl [Hinv] <;> iassumption

/-! ### Duties go to those that discharge them -/

def around : Dev nD × Fin 31 ≃ Dev nD × Fin 31 where
  toFun x := (peer x.1 x.2, x.2)
  invFun x := (peer x.1 x.2, x.2)
  left_inv x := Prod.ext (peer_peer x.1 x.2) rfl
  right_inv x := Prod.ext (peer_peer x.1 x.2) rfl

/-- Whatever concerns each device and distance concerns each device's peer at that distance. -/
theorem bigSep_around (Φ : Dev nD → Fin 31 → sProp 𝕄) :
    (bigSep Finset.univ fun c : Dev nD => bigSep Finset.univ fun t : Fin 31 => Φ c t)
      = bigSep Finset.univ fun c : Dev nD => bigSep Finset.univ fun t : Fin 31 => Φ (peer c t) t := by
  rw [← bigSep_univ_prod (fun x : Dev nD × Fin 31 => Φ x.1 x.2), bigSep_univ_equiv around (fun x : Dev nD × Fin 31 => Φ x.1 x.2), bigSep_univ_prod]
  rfl

theorem bigSep_kinds (Φ : Fin 4 × Fin 31 → sProp 𝕄) :
    bigSep Finset.univ Φ = iprop((bigSep Finset.univ fun t => Φ (0, t)) ∗ (bigSep Finset.univ fun t => Φ (1, t))
      ∗ (bigSep Finset.univ fun t => Φ (2, t)) ∗ bigSep Finset.univ fun t => Φ (3, t)) := by
  have e4 : (Finset.univ : Finset (Fin 4)) = insert 0 (insert 1 (insert 2 {3})) := by decide
  rw [bigSep_univ_prod, e4, bigSep_insert (by decide), bigSep_insert (by decide), bigSep_insert (by decide), bigSep_singleton]
  rfl

theorem pass_on : (bigSep Finset.univ fun c : Dev nD => (minted c : sProp 𝕄)) = bigSep Finset.univ fun c : Dev nD => toks c := by
  have h : ∀ c : Dev nD, (minted c : sProp 𝕄) = iprop((bigSep Finset.univ fun t : Fin 31 => dutyTok ER (kcell c none) 0 t)
      ∗ (bigSep Finset.univ fun t : Fin 31 => dutyTok ER (kcell c (leftK t)) 0 0) ∗ (bigSep Finset.univ fun t : Fin 31 => dutyTok ER (kcell c (gotK t)) 0 0)
      ∗ (bigSep Finset.univ fun t : Fin 31 => dutyTok ER (kcell c (leftAllK t)) 0 0) ∗ bigSep Finset.univ fun t : Fin 31 => dutyTok ER (kcell c (gotAllK t)) 0 0) := fun c => by
    unfold minted; rw [bigSep_kinds]
  rw [bigSep_congr fun c _ => h c]
  unfold toks
  rw [bigSep_sep', bigSep_sep', bigSep_sep', bigSep_sep', bigSep_sep', bigSep_sep', bigSep_sep', bigSep_sep',
    bigSep_around (fun c t => (dutyTok ER (kcell c none) 0 t : sProp 𝕄)), bigSep_around (fun c t => (dutyTok ER (kcell c (gotK t)) 0 0 : sProp 𝕄)),
    bigSep_around (fun c t => (dutyTok ER (kcell c (gotAllK t)) 0 0 : sProp 𝕄))]

/-- What all may know goes to each. -/
theorem bigSep_know {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem gather :
    (bigSep Finset.univ fun c : Dev nD => iprop((bigSep Finset.univ fun k : Key => iprop(∃ κ : ℕ, cellInv ER (rd hb) κ (kcell c k))) ∗ marks c ∗ opened c ∗ minted c) : sProp 𝕄)
      ⊢ bigSep Finset.univ (share₁ hb) := by
  rw [bigSep_sep', bigSep_sep', bigSep_sep', pass_on, ← bigSep_univ_prod (fun ck : Dev nD × Key => iprop(∃ κ : ℕ, cellInv ER (rd hb) κ (kcell ck.1 ck.2)))]
  unfold opened
  rw [← bigSep_univ_prod (fun ck : Dev nD × Key => (reached ER (kcell ck.1 ck.2) 0 : sProp 𝕄))]
  iintro ⟨HI, Hat, #HR, Htok⟩
  ihave HK := (BI.bigSep_exists_pi Finset.univ (fun (ck : Dev nD × Key) (κ : ℕ) => (cellInv ER (rd hb) κ (kcell ck.1 ck.2) : sProp 𝕄))) $$ HI
  icases HK with ⟨%K, #HI⟩
  have hone : ∀ c : Dev nD, iprop(cells hb K ∗ (marks c ∗ toks c)) ⊢ share₁ hb c := fun c => by
    unfold share₁
    iintro ⟨H1, H2⟩
    iexists K
    isplitl [H1] <;> iassumption
  iapply (bigSep_know (S := Finset.univ) (R := cells hb K) hone)
  isplitr
  · unfold cells; isplitl; · iexact HI
    iexact HR
  · iapply (Entails.of_eq (bigSep_sep' Finset.univ (fun c : Dev nD => (marks c : sProp 𝕄)) toks).symm)
    isplitl [Hat] <;> iassumption

theorem all_enter : (bigSep Finset.univ fun c => iprop(Pipeline.ownSems0 (Ix := Unit) (Name := ℕ) (U := UU) (Lvl := ℕ) (Val := Elt F) (τ := τ) osem c ∗ unscopedSems0 c ∗ share₀ hb c) : sProp 𝕄)
    ⊢ |={Set.univ}=> bigSep Finset.univ (share₁ hb) :=
  ((bigSep_mono fun c _ => enter hb c).trans (bigSep_fupd _ _)).trans (BI.fupd_mono (gather hb))

/-! ### Credits -/

/-- A tally at one distance counts at another cell of its kind only there. -/
theorem tally_peer (d c : Dev nD) (t : Fin 31) (k l : Key) (n : ℕ) :
    (tallyAt (kcell (peer d t) k) () n : Tally) (kcell c l) () = if d = peer c t ∧ k = l then n else 0 := by
  rw [tallyAt_apply]
  by_cases h : d = peer c t ∧ k = l
  · obtain ⟨rfl, rfl⟩ := h
    rw [peer_peer, if_pos ⟨rfl, rfl⟩, if_pos ⟨rfl, rfl⟩]
  · rw [if_neg h, if_neg]
    rintro ⟨e, -⟩
    obtain ⟨e1, e2⟩ := kcell_inj e
    exact h ⟨by rw [← peer_peer d t, ← e1], e2.symm⟩

/-- What is owed in all to a cell of device `c`. -/
theorem sum_peer (c : Dev nD) (f : Fin 31 → Key) (l : Key) (n : ℕ) :
    (∑ d : Dev nD, (osum (fun t => tallyAt (kcell (peer d t) (f t)) () n) 0) (kcell c l) ()) = ∑ t : Fin 31, if f t = l then n else 0 := by
  have h : ∀ d : Dev nD, (osum (fun t => tallyAt (kcell (peer d t) (f t)) () n) 0) (kcell c l) ()
      = ∑ t : Fin 31, if d = peer c t ∧ f t = l then n else 0 := fun d => by
    unfold osum
    rw [Finset.filter_true_of_mem fun t _ => Nat.zero_le _, Finset.sum_apply, Finsupp.finset_sum_apply]
    exact Finset.sum_congr rfl fun t _ => tally_peer d c t (f t) l n
  rw [Finset.sum_congr rfl fun d _ => h d, Finset.sum_comm]
  refine Finset.sum_congr rfl fun t _ => ?_
  rw [Finset.sum_congr rfl fun d _ => ite_and (d = peer c t) (f t = l) n 0, Finset.sum_ite_eq' Finset.univ (peer c t), if_pos (Finset.mem_univ _)]

theorem owed_at (c : Dev nD) (l : Key) :
    (∑ d : Dev nD, O₀ d (kcell c l) ()) = (∑ t : Fin 31, if gotAllK t = l then N else 0) + (∑ t : Fin 31, if gotK t = l then N else 0)
      + ∑ t : Fin 31, if (none : Key) = l then 1 else 0 := by
  rw [← sum_peer c gotAllK l N, ← sum_peer c gotK l N, ← sum_peer c (fun _ => none) l 1, ← Finset.sum_add_distrib, ← Finset.sum_add_distrib]
  rfl

theorem credit_at (c : Dev nD) (l : Key) (n : ℕ) (h : (∑ d : Dev nD, O₀ d (kcell c l) ()) = n) :
    tallyOn (kcell c l) (launchCredit (Pipeline.owing O₀) 0 (kcell c l)) = (tallyAt (kcell c l) () n : Tally) := by
  unfold tallyAt; refine congrArg _ (Finsupp.ext fun u => ?_); cases u
  rw [Pipeline.launchCredit_owing, Finsupp.single_eq_same, h]

theorem owed_bar (c : Dev nD) : (∑ d : Dev nD, O₀ d (kcell c none) ()) = 31 := by
  rw [owed_at]; simp
theorem owed_got (c : Dev nD) (t : Fin 31) : (∑ d : Dev nD, O₀ d (kcell c (gotK t)) ()) = N := by
  rw [owed_at]; simp
theorem owed_gotAll (c : Dev nD) (t : Fin 31) : (∑ d : Dev nD, O₀ d (kcell c (gotAllK t)) ()) = N := by
  rw [owed_at]; simp

theorem credits (c : Dev nD) : (Pipeline.launchCred O₀ c : sProp 𝕄) ⊢ hopes c := by
  have h : (Pipeline.launchCred O₀ c : sProp 𝕄)
      ⊢ bigSep Finset.univ fun k : Key => cred (tallyOn (kcell c k) (launchCredit (Pipeline.owing O₀) 0 (kcell c k))) := by
    unfold Pipeline.launchCred
    refine (bigSep_subset (Finset.subset_univ (Finset.univ.map (⟨csem, csem_inj⟩ : Key ↪ SemLoc sig)))).trans ?_
    rw [bigSep_map]
    exact BI.Entails.refl _
  refine h.trans ?_
  rw [bigSep_keys]
  unfold hopes
  have h1 : ∀ t : Fin 31, (cred (tallyOn (kcell c (gotK t)) (launchCredit (Pipeline.owing O₀) 0 (kcell c (gotK t)))) : sProp 𝕄)
      = cred (tallyAt (kcell c (gotK t)) () N) := fun t => by rw [credit_at c (gotK t) N (owed_got c t)]
  have h3 : ∀ t : Fin 31, (cred (tallyOn (kcell c (gotAllK t)) (launchCredit (Pipeline.owing O₀) 0 (kcell c (gotAllK t)))) : sProp 𝕄)
      = cred (tallyAt (kcell c (gotAllK t)) () N) := fun t => by rw [credit_at c (gotAllK t) N (owed_gotAll c t)]
  rw [credit_at c none 31 (owed_bar c), funext h1, funext h3]
  iintro ⟨H1, -, H2, -, H3⟩
  isplitl [H1]; · iexact H1
  isplitl [H2]; · iexact H2
  iexact H3

end Cert.KernelIdeal.Att

end
-- ==== Proof.BodyEq.lean ====
/- The printed body is the body written as loops. -/
module

public import proofs.«01_k».proof.Proof.Struct
public import Idealize.ShloMosaic.Lib.Pipeline.Regions

@[expose] public section

set_option maxRecDepth 65536
set_option maxHeartbeats 0

noncomputable section

namespace Cert.KernelIdeal.Att

open Idealize.ShloMosaic Idealize.SL.Sem
open Cert.KernelIdeal Cert.KernelIdeal.Gen

variable {F : FTy → Type} [FloatOps F]
  (x : Memref sig .tc .vmem S2x256x768 .f32) (hx : x.IsWhole) (wq : Memref sig .tc .vmem S768x512 .f32) (hwq : wq.IsWhole)
  (wo : Memref sig .tc .vmem S512x768 .f32) (hwo : wo.IsWhole)
  (kk : Memref sig .tc .vmem S2x512x2x64 .f32) (hkk : kk.IsWhole) (vv : Memref sig .tc .vmem S2x512x2x64 .f32) (hvv : vv.IsWhole)
  (o : Memref sig .tc .vmem S2x256x768 .f32) (ho : o.IsWhole)
  (sb : Memref sig .tc .vmem S32x72x128 .f32) (hsb : sb.IsWhole) (rb : Memref sig .tc .vmem S32x72x128 .f32) (hrb : rb.IsWhole)
  (s8 s9 s10 s11 : DmaSems sig S31)

/-- Unrolled, the loops are the printed body. -/
theorem body_eq : cc0_body (F := F) x hx wq hwq wo hwo kk hkk vv hvv o ho sb hsb rb hrb s8 s9 s10 s11
    = body x wq wo kk vv o sb rb s8 s9 s10 s11 := by
  chain_rfl

end Cert.KernelIdeal.Att

end
-- ==== Proof.Launch.lean ====
/- The run of the whole program: every device's result, its arguments as they were, its semaphores at zero. -/
module

public import proofs.«01_k».proof.Proof.Deal
public import proofs.«01_k».proof.Proof.BodyEq
public import proofs.«01_k».proof.Proof.Gen.KernelIdeal.Points
public import Idealize.ShloMosaic.Lib.Pipeline.CollectiveSegs

@[expose] public section

set_option maxRecDepth 16384

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ### Contents -/

/-- What the body finds of each argument. -/
abbrev xIn (c : Dev nD) : (cc0_stg0_0 : Ref sig .tc).ty.Contents (Elt F) := (win0_0.blk t0_0).view.read (Elt F) (m (win0_0.arr.view.loc (c : Thread nD τ)))
abbrev qIn (c : Dev nD) : (cc0_stg1_0 : Ref sig .tc).ty.Contents (Elt F) := (win0_1.blk t0_0).view.read (Elt F) (m (win0_1.arr.view.loc (c : Thread nD τ)))
abbrev wIn (c : Dev nD) : (cc0_stg2_0 : Ref sig .tc).ty.Contents (Elt F) := (win0_2.blk t0_0).view.read (Elt F) (m (win0_2.arr.view.loc (c : Thread nD τ)))
abbrev kIn (c : Dev nD) : (cc0_stg3_0 : Ref sig .tc).ty.Contents (Elt F) := (win0_3.blk t0_0).view.read (Elt F) (m (win0_3.arr.view.loc (c : Thread nD τ)))
abbrev vIn (c : Dev nD) : (cc0_stg4_0 : Ref sig .tc).ty.Contents (Elt F) := (win0_4.blk t0_0).view.read (Elt F) (m (win0_4.arr.view.loc (c : Thread nD τ)))

/-- Each device's partial results; -/
def parts (c : Dev nD) : Big F :=
  headBuf (look (Memref.whole cc0_stg0_0) (xIn m c)) (look (Memref.whole cc0_stg1_0) (qIn m c)) (look (Memref.whole cc0_stg3_0) (kIn m c)) (look (Memref.whole cc0_stg4_0) (vIn m c))
/-- each device's result. -/
def outAt (c : Dev nD) : (cc0_stg5_0 : Ref sig .tc).ty.Contents (Elt F) := outVal (finBuf (parts m)) (look (Memref.whole cc0_stg2_0) (wIn m c))

/-! ### The pipeline's data -/

def start (c : Dev nD) : sProp 𝕄 := iprop(share₁ (parts m) c ∗ hopes c ∗ levAts L lv)
def Φ₀ (c : Dev nD) : sProp 𝕄 := iprop(start m c ∗ (∃ f, sAll c f) ∗ ∃ g, rAll c g)
def Φ₁ (c : Dev nD) : sProp 𝕄 := iprop(zeros c ∗ (∃ f, sAll c f) ∗ ∃ g, rAll c g)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => qIn m c
    | ⟨2, _⟩ => wIn m c
    | ⟨3, _⟩ => kIn m c
    | ⟨4, _⟩ => vIn m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fin_N (t : Fin cfg0.N) : t = t0_0 := fin_N0 t

theorem owns_stage (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem bigSep_windows (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-! ### The body -/

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d))
    ∗ (∃ d, stg c cc0_stg2_0 ((dats m ρ 0 c).before (2 : Fin 6) t0_0 d)) ∗ (∃ d, stg c cc0_stg3_0 ((dats m ρ 0 c).before (3 : Fin 6) t0_0 d))
    ∗ (∃ d, stg c cc0_stg4_0 ((dats m ρ 0 c).before (4 : Fin 6) t0_0 d)) ∗ (∃ d, stg c cc0_stg5_0 ((dats m ρ 0 c).before (5 : Fin 6) t0_0 d)))
def bodyPost (c : Dev nD) : sProp 𝕄 :=
  iprop(Φ₁ c ∗ (dats m ρ 0 c).owesAt () t0_0.succ
    ∗ stg c cc0_stg0_0 (xIn m c) ∗ stg c cc0_stg1_0 (qIn m c) ∗ stg c cc0_stg2_0 (wIn m c) ∗ stg c cc0_stg3_0 (kIn m c) ∗ stg c cc0_stg4_0 (vIn m c)
    ∗ stg c cc0_stg5_0 (outAt m c))

abbrev xB : Memref sig .tc .vmem S2x256x768 .f32 := Memref.whole cc0_stg0_0
abbrev qB : Memref sig .tc .vmem S768x512 .f32 := Memref.whole cc0_stg1_0
abbrev wB : Memref sig .tc .vmem S512x768 .f32 := Memref.whole cc0_stg2_0
abbrev kB : Memref sig .tc .vmem S2x512x2x64 .f32 := Memref.whole cc0_stg3_0
abbrev vB : Memref sig .tc .vmem S2x512x2x64 .f32 := Memref.whole cc0_stg4_0
abbrev oB : Memref sig .tc .vmem S2x256x768 .f32 := Memref.whole cc0_stg5_0

/-- What the body needs, put together. -/
theorem before_body (c : Dev nD) : bodyPre m ρ c ⊢ iprop(∃ K f g of, records (parts m) K ∗ owing c (O₀ c) ∗ marks c ∗ toks c ∗ hopes c ∗ sAll c f ∗ rAll c g
      ∗ ins c xB qB kB vB (xIn m c) (qIn m c) (kIn m c) (vIn m c) ∗ own c wB Finset.univ fullShare (wIn m c) ∗ own c oB Finset.univ fullShare of) := by
  unfold bodyPre Φ₀ start share₁
  unfold Dat.owesAt Pipeline.owesWithin
  iintro ⟨⟨⟨⟨%K, #HC, Hm, Ht⟩, Hh, #HL⟩, ⟨%f, Hs⟩, ⟨%g, Hr⟩⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  have e0 : g0 = xIn m c := by rw [h0]; unfold Dat.before; rw [if_pos (fetch0_0 t0_0)]; rfl
  have e1 : g1 = qIn m c := by rw [h1]; unfold Dat.before; rw [if_pos (fetch0_1 t0_0)]; rfl
  have e2 : g2 = wIn m c := by rw [h2]; unfold Dat.before; rw [if_pos (fetch0_2 t0_0)]; rfl
  have e3 : g3 = kIn m c := by rw [h3]; unfold Dat.before; rw [if_pos (fetch0_3 t0_0)]; rfl
  have e4 : g4 = vIn m c := by rw [h4]; unfold Dat.before; rw [if_pos (fetch0_4 t0_0)]; rfl
  subst e0; subst e1; subst e2; subst e3; subst e4
  iexists K; iexists f; iexists g; iexists g5
  isplitr
  · unfold records; isplitr; · iexact HC
    iexact HL
  isplitl [HO]
  · unfold owing; iexists W; iexact HO
  isplitl [Hm]; · iexact Hm
  isplitl [Ht]; · iexact Ht
  isplitl [Hh]; · iexact Hh
  isplitl [Hs]; · iexact Hs
  isplitl [Hr]; · iexact Hr
  isplitl [H0 H1 H3 H4]
  · isplitl [H0]; · iexact H0
    isplitl [H1]; · iexact H1
    isplitl [H3]; · iexact H3
    iexact H4
  isplitl [H2]; · iexact H2
  iexact H5

theorem after_body (c : Dev nD) :
    iprop(owing c 0 ∗ zeros c ∗ (∃ f, sAll c f) ∗ (∃ g, rAll c g) ∗ ins c xB qB kB vB (xIn m c) (qIn m c) (kIn m c) (vIn m c) ∗ own c wB Finset.univ fullShare (wIn m c)
          ∗ ∃ f, ⌜look oB f = outVal (finBuf (parts m)) (look wB (wIn m c))⌝ ∗ own c oB Finset.univ fullShare f)
      ⊢ bodyPost m ρ c := by
  unfold bodyPost Φ₁ owing
  unfold Dat.owesAt Pipeline.owesWithin
  iintro ⟨⟨%W, HO⟩, Hz, Hs, Hr, ⟨H0, H1, H3, H4⟩, H2, ⟨%f, %hf, H5⟩⟩
  isplitl [Hz Hs Hr]
  · isplitl [Hz]; · iexact Hz
    isplitl [Hs] <;> iassumption
  isplitl [HO]
  · iexists W
    isplitr; · ipureintro; exact fun _ _ => Or.inl trivial
    iexact HO
  isplitl [H0]; · (iexists _; isplitr; · (ipureintro; rfl)); iexact H0
  isplitl [H1]; · (iexists _; isplitr; · (ipureintro; rfl)); iexact H1
  isplitl [H2]; · (iexists _; isplitr; · (ipureintro; rfl)); iexact H2
  isplitl [H3]; · (iexists _; isplitr; · (ipureintro; rfl)); iexact H3
  isplitl [H4]; · (iexists _; isplitr; · (ipureintro; rfl)); iexact H4
  iexists f
  isplitr; · ipureintro; exact hf
  iexact H5

theorem run_body (c : Dev nD) : bodyPre m ρ c ⊢ wpc c
    (cc0_body xB (Memref.isWhole_whole _) qB (Memref.isWhole_whole _) wB (Memref.isWhole_whole _) kB (Memref.isWhole_whole _) vB (Memref.isWhole_whole _) oB (Memref.isWhole_whole _)
      sbM (Memref.isWhole_whole _) rbM (Memref.isWhole_whole _) cc0_scratch2 cc0_scratch3 cc0_scratch4 cc0_scratch5) fun _ => bodyPost m ρ c := by
  rw [body_eq, plain_eq]
  refine BIBase.Entails.trans (before_body m ρ c) ?_
  iintro ⟨%K, %f, %g, %of, H⟩
  iapply (mono_wp c (plain_wp (parts m) K c xB qB wB kB vB oB (xIn m c) (qIn m c) (kIn m c) (vIn m c) (wIn m c) of rfl f g) fun _ => after_body m ρ c)
  iexact H

theorem at_point : defs₀ (F := F) Proc.tc 0 (t0_0, cfg0.slots t0_0) = bodyAt0 t0_0 := rfl
theorem at_whole : bodyAt0 (F := F) t0_0
    = cc0_body xB (Memref.isWhole_whole _) qB (Memref.isWhole_whole _) wB (Memref.isWhole_whole _) kB (Memref.isWhole_whole _) vB (Memref.isWhole_whole _) oB (Memref.isWhole_whole _)
      sbM (Memref.isWhole_whole _) rbM (Memref.isWhole_whole _) cc0_scratch2 cc0_scratch3 cc0_scratch4 cc0_scratch5 := by
  unfold bodyAt0
  congr 1

theorem run_point (c : Dev nD) : bodyPre m ρ c ⊢ wp Idealize.ShloMosaic.frame (wpE (defs₀ (F := F)) 𝒱₀ (c : Thread nD τ) none) Set.univ
    (defs₀ (F := F) Proc.tc 0 (t0_0, cfg0.slots t0_0)) fun _ => bodyPost m ρ c := by
  have h := run_body m ρ c
  rw [← at_whole] at h
  rw [at_point]
  refine Eq.mp ?_ h
  congr 1

theorem body_obligation (c : Dev nD) : BodyObligation (dats (F := F) m ρ 0 c) (defs₀ (F := F)) 𝒱₀ () Set.univ := fun t => by
  rw [fin_N t]
  rw [bigSep_windows, bigSep_windows]
  simp only [owns_stage]
  refine BIBase.Entails.trans ?_ (BIBase.Entails.trans (run_point m ρ c) (Entails.of_eq ?_))
  · unfold bodyPre
    rw [show (dats m ρ 0 c).Φ t0_0.castSucc = Φ₀ m c from rfl]
  · congr 1

/-! ### The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share₁ (parts m) c)
      ⊢ |={Set.univ}=> iprop(start m c ∗ emp) := by
  iintro ⟨-, Hlev, Hcr, -, HG⟩
  ihave Hc := (credits (F := F) c) $$ Hcr
  imodintro
  unfold start
  isplitl
  · isplitl [HG]; · iexact HG
    isplitl [Hc] <;> iassumption
  · iempintro

theorem enter_body (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

theorem leave_body (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, scoped_eq, unscoped_eq]
  unfold Φ₁
  rw [zeros_eq]
  iintro ⟨⟨Hz, Hs⟩, Hr⟩
  isplitl [Hz]; · iexact Hz
  isplitl [Hs]; · iexact Hs
  iexact Hr

theorem waits (c : Dev nD) : (levAts L lv : sProp 𝕄) ⊢ Pipeline.cellsWaits cfgs (dats m ρ) () 0 c :=
  Pipeline.cellsWaits_intro cfgs (dats m ρ) () 0 c fun w s t =>
    mayWait c _ 0 (by
      rw [role_stage _ (by fin_cases w <;> fin_cases s <;> decide)]
      exact Nat.le_refl 0) _ (by
      rcases t with ⟨_ | _, ht⟩
      · exact above_O₀ c
      · exact above_zero 0)

/-! ### The run -/

/-- An array after the run. -/
def final (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = final m ρ c w

theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := share₀ (parts m)) (G' := share₁ (parts m)) (u₀ := seed)
    (hu₀ := by
      unfold seed
      iintro Hu
      ihave H := (ownU_pair _ _) $$ Hu
      icases H with ⟨HP, HX⟩
      imod (deal (parts m)) $$ HX with HG
      imodintro
      isplitl [HP] <;> iassumption)
    (hglob := all_enter (parts m))
    (hA := fun _ _ => rfl) (hpf := fun _ k => k.elim0)
    (X := start m) (Y := fun c => unscopedSems0 c) (Z := fun _ => iprop(emp))
    (hX := start_intro m ρ) (hin := enter_body m ρ) (hout := leave_body m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are as they were. -/
theorem final_in (c : Dev nD) (w : Fin cfg0.W) (h : (cfg0.win w).isOut = false) : final m ρ c w = m ((cfg0.win w).arr.view.loc (c : Thread nD τ)) :=
  (dats (F := F) m ρ 0 c).arrAt_in w h _

end Cert.KernelIdeal.Att

end
-- ==== Proof.K.BodyEq.lean ====
/- The printed body is the body written as loops. -/
module

public import proofs.«01_k».proof.Proof.K.Struct
public import Idealize.ShloMosaic.Lib.Pipeline.Regions

@[expose] public section

set_option maxRecDepth 65536
set_option maxHeartbeats 0

noncomputable section

namespace Cert.Kernel.Att

open Idealize.ShloMosaic Idealize.SL.Sem
open Cert.Kernel Cert.Kernel.Gen

variable {F : FTy → Type} [FloatOps F]
  (x : Memref sig .tc .vmem S2x256x768 .f32) (hx : x.IsWhole) (wq : Memref sig .tc .vmem S768x512 .f32) (hwq : wq.IsWhole)
  (wo : Memref sig .tc .vmem S512x768 .f32) (hwo : wo.IsWhole)
  (kk : Memref sig .tc .vmem S2x512x2x64 .f32) (hkk : kk.IsWhole) (vv : Memref sig .tc .vmem S2x512x2x64 .f32) (hvv : vv.IsWhole)
  (o : Memref sig .tc .vmem S2x256x768 .f32) (ho : o.IsWhole)
  (sb : Memref sig .tc .vmem S32x72x128 .f32) (hsb : sb.IsWhole) (rb : Memref sig .tc .vmem S32x72x128 .f32) (hrb : rb.IsWhole)
  (s8 s9 s10 s11 : DmaSems sig S31)

/-- Unrolled, the loops are the printed body. -/
theorem body_eq : cc0_body (F := F) x hx wq hwq wo hwo kk hkk vv hvv o ho sb hsb rb hrb s8 s9 s10 s11
    = body x wq wo kk vv o sb rb s8 s9 s10 s11 := by
  chain_rfl

end Cert.Kernel.Att

end
-- ==== Proof.Soft.lean ====
/- Softmax sums over a set of keys, and how the sums over two disjoint sets combine. -/
module

public import Idealize.ShloMosaic.Lib.Pointwise
public import Mathlib.Data.EReal.Operations

@[expose] public section

noncomputable section

namespace Cert.Soft

open Idealize.ShloMosaic

/-- The pattern of negative infinity. -/
theorem ofBits_low : Ideal.ofBits .f32 0xFF800000#32 = ⊥ := by simp [Ideal.ofBits, Ideal.ieee]

/-! ### The exponential of a difference -/

theorem exp_nonneg (x : EReal) : 0 ≤ Ideal.exp x := by
  induction x with
  | bot => exact le_refl _
  | coe r => rw [Ideal.exp_coe]; exact_mod_cast (Real.exp_pos r).le
  | top => rw [Ideal.exp_top]; exact le_top

/-- A weight relative to a bound is finite. -/
theorem exp_sub_ne_top {a m : EReal} (h : a ≤ m) : Ideal.exp (a - m) ≠ ⊤ := by
  induction a with
  | bot => rw [EReal.bot_sub]; simp
  | top =>
    have hm : m = ⊤ := top_le_iff.mp h
    subst hm
    rw [EReal.sub_top]; simp
  | coe r =>
    induction m with
    | bot => exact absurd h (by simp)
    | top => rw [EReal.sub_top]; simp
    | coe s => rw [← EReal.coe_sub, Ideal.exp_coe]; exact EReal.coe_ne_top _

/-- A weight relative to the bound `a`, brought to the larger bound `m`. -/
theorem exp_rebase {s a m : EReal} (h1 : s ≤ a) (h2 : a ≤ m) :
    Ideal.exp (s - a) * Ideal.exp (a - m) = Ideal.exp (s - m) := by
  induction m with
  | top => rw [EReal.sub_top, EReal.sub_top]; simp
  | bot =>
    have ha : a = ⊥ := le_bot_iff.mp h2
    subst ha
    have hs : s = ⊥ := le_bot_iff.mp h1
    subst hs
    simp
  | coe m =>
    induction a with
    | top => exact absurd h2 (by simp)
    | bot =>
      have hs : s = ⊥ := le_bot_iff.mp h1
      subst hs
      simp
    | coe a =>
      induction s with
      | top => exact absurd h1 (by simp)
      | bot => simp
      | coe s =>
        rw [← EReal.coe_sub, ← EReal.coe_sub, ← EReal.coe_sub, Ideal.exp_coe, Ideal.exp_coe, Ideal.exp_coe, ← EReal.coe_mul,
          ← Real.exp_add]
        congr 2
        ring

/-- A sum times a finite factor that is not negative. -/
theorem sum_mul_fin {ι : Type} (S : Finset ι) (f : ι → EReal) {c : EReal} (h0 : 0 ≤ c) (ht : c ≠ ⊤) :
    (∑ j ∈ S, f j) * c = ∑ j ∈ S, f j * c := by
  classical
  induction S using Finset.induction_on with
  | empty => simp
  | insert a S ha ih => rw [Finset.sum_insert ha, Finset.sum_insert ha, EReal.right_distrib_of_nonneg_of_ne_top h0 ht, ih]

/-! ### The sums over a set of keys -/

section
variable {ι : Type} (s : ι → EReal)

/-- The largest score; -/
def top (S : Finset ι) : EReal := S.fold max ⊥ s
/-- the values summed by the weights relative to it. -/
def sum (S : Finset ι) (v : ι → EReal) : EReal := ∑ j ∈ S, Ideal.exp (s j - top s S) * v j
/-- and the sum of the weights. -/
def wt (S : Finset ι) : EReal := ∑ j ∈ S, Ideal.exp (s j - top s S)

/-- The three kinds of sum by row: 64 rows of values, one of the largest score, one of the weights. -/
def stat (v : Fin 64 → ι → EReal) (S : Finset ι) (r : Nat) : EReal :=
  if h : r < 64 then sum s S (v ⟨r, h⟩) else if r = 64 then top s S else wt s S

theorem le_top' {S : Finset ι} {j : ι} (h : j ∈ S) : s j ≤ top s S := by
  unfold top
  exact Finset.le_fold_max (s j) |>.mpr (Or.inr ⟨j, h, le_refl _⟩)

variable [DecidableEq ι]

theorem top_union {S T : Finset ι} : top s (S ∪ T) = max (top s S) (top s T) := by
  unfold top
  refine le_antisymm ?_ ?_
  · rw [Finset.fold_max_le]
    refine ⟨bot_le, fun j hj => ?_⟩
    rcases Finset.mem_union.mp hj with h | h
    · exact le_max_of_le_left ((Finset.le_fold_max _).mpr (Or.inr ⟨j, h, le_refl _⟩))
    · exact le_max_of_le_right ((Finset.le_fold_max _).mpr (Or.inr ⟨j, h, le_refl _⟩))
  · refine max_le ?_ ?_ <;> rw [Finset.fold_max_le] <;> refine ⟨bot_le, fun j hj => ?_⟩
    · exact (Finset.le_fold_max _).mpr (Or.inr ⟨j, Finset.mem_union_left _ hj, le_refl _⟩)
    · exact (Finset.le_fold_max _).mpr (Or.inr ⟨j, Finset.mem_union_right _ hj, le_refl _⟩)

/-- A sum of values brought to a larger bound. -/
theorem sum_rebase (S : Finset ι) (v : ι → EReal) {m : EReal} (h : top s S ≤ m) :
    sum s S v * Ideal.exp (top s S - m) = ∑ j ∈ S, Ideal.exp (s j - m) * v j := by
  unfold sum
  rw [sum_mul_fin S _ (exp_nonneg _) (exp_sub_ne_top h)]
  refine Finset.sum_congr rfl fun j hj => ?_
  rw [mul_right_comm, exp_rebase (le_top' s hj) h]

/-- A sum of weights brought to a larger bound. -/
theorem wt_rebase (S : Finset ι) {m : EReal} (h : top s S ≤ m) :
    wt s S * Ideal.exp (top s S - m) = ∑ j ∈ S, Ideal.exp (s j - m) := by
  unfold wt
  rw [sum_mul_fin S _ (exp_nonneg _) (exp_sub_ne_top h)]
  refine Finset.sum_congr rfl fun j hj => ?_
  rw [exp_rebase (le_top' s hj) h]

theorem sum_union {S T : Finset ι} (hd : Disjoint S T) (v : ι → EReal) :
    sum s (S ∪ T) v = sum s S v * Ideal.exp (top s S - max (top s S) (top s T))
      + sum s T v * Ideal.exp (top s T - max (top s S) (top s T)) := by
  rw [sum_rebase s S v (le_max_left _ _), sum_rebase s T v (le_max_right _ _)]
  unfold sum
  rw [Finset.sum_union hd, top_union]

theorem wt_union {S T : Finset ι} (hd : Disjoint S T) :
    wt s (S ∪ T) = wt s S * Ideal.exp (top s S - max (top s S) (top s T))
      + wt s T * Ideal.exp (top s T - max (top s S) (top s T)) := by
  rw [wt_rebase s S (le_max_left _ _), wt_rebase s T (le_max_right _ _)]
  unfold wt
  rw [Finset.sum_union hd, top_union]
end

/-! ### Renaming the keys -/

section
variable {ι κ : Type} [Fintype ι] [Fintype κ]

theorem top_map (e : ι ≃ κ) (s : κ → EReal) : top (fun j => s (e j)) Finset.univ = top s Finset.univ := by
  unfold top
  refine le_antisymm ?_ ?_ <;> rw [Finset.fold_max_le] <;> refine ⟨bot_le, fun j _ => ?_⟩
  · exact (Finset.le_fold_max _).mpr (Or.inr ⟨e j, Finset.mem_univ _, le_refl _⟩)
  · exact (Finset.le_fold_max _).mpr (Or.inr ⟨e.symm j, Finset.mem_univ _, le_of_eq (by rw [e.apply_symm_apply])⟩)

theorem sum_map (e : ι ≃ κ) (s v : κ → EReal) :
    sum (fun j => s (e j)) Finset.univ (fun j => v (e j)) = sum s Finset.univ v := by
  unfold sum
  rw [top_map e s]
  exact e.sum_comp fun j => Ideal.exp (s j - top s Finset.univ) * v j

theorem wt_map (e : ι ≃ κ) (s : κ → EReal) : wt (fun j => s (e j)) Finset.univ = wt s Finset.univ := by
  unfold wt
  rw [top_map e s]
  exact e.sum_comp fun j => Ideal.exp (s j - top s Finset.univ)

theorem stat_map (e : ι ≃ κ) (s : κ → EReal) (v : Fin 64 → κ → EReal) (r : Nat) :
    stat (fun j => s (e j)) (fun d j => v d (e j)) Finset.univ r = stat s v Finset.univ r := by
  unfold stat
  simp only [sum_map e s, top_map e s, wt_map e s]

/-- The sums over the image of a set. -/
theorem stat_image [DecidableEq κ] (e : ι → κ) (he : Function.Injective e) (s : κ → EReal) (v : Fin 64 → κ → EReal) (r : Nat) :
    stat s v (Finset.univ.image e) r = stat (fun j => s (e j)) (fun d j => v d (e j)) Finset.univ r := by
  have ht : top s (Finset.univ.image e) = top (fun j => s (e j)) Finset.univ := by
    unfold top
    exact Finset.fold_image fun x _ y _ h => he h
  unfold stat sum wt
  simp only [ht, Finset.sum_image fun x _ y _ h => he h]
end

end Cert.Soft

end
-- ==== Proof.HeadVal.lean ====
/- A device's partial results over the extended reals: per head and query the softmax sums over its own keys. -/
module

public import proofs.«01_k».proof.Proof.Soft
public import proofs.«01_k».proof.Proof.Buf

@[expose] public section

set_option maxRecDepth 16384

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

section
variable (x : S2x256x768.Idx → Ideal .f32) (w : S768x512.Idx → Ideal .f32) (k v : S2x512x2x64.Idx → Ideal .f32) (b : Fin 2) (h : Fin 8)

/-- A query of head `h`; -/
def lqry (q : Fin 256) (d : Fin 64) : EReal := ∑ a : Fin 768, x (ix3 b q a) * w (ix2 a ⟨64 * h.val + d.val, by omega⟩)
/-- its score with one of the device's keys; -/
def lsc (q : Fin 256) (n : Fin 512) : EReal :=
  (∑ d : Fin 64, k (ix4 b n ⟨h.val / 4, by omega⟩ d) * lqry x w b h q d) * Ideal.ofBits .f32 0x3E000000#32
/-- an entry of that key's value. -/
def lval (r : Fin 64) (n : Fin 512) : EReal := v (ix4 b n ⟨h.val / 4, by omega⟩ r)

theorem qry_apply (q : Fin 256) (d : Fin 64) : qry x w b (ix2 q ⟨64 * h.val + d.val, by omega⟩) = lqry x w b h q d := by
  unfold lqry
  have e (a : Fin 768) : (rX b).emb (ix3 0 q a) = ix3 b q a := by
    funext y
    refine Fin.ext ?_
    rw [Rect.emb_apply]
    fin_cases y <;> simp [ix3]
  have e' (i : S768x512.Idx) : rW.emb i = i := by
    funext y
    refine Fin.ext ?_
    rw [Rect.emb_apply]
    fin_cases y <;> simp
  pointwise [qry, queries]
  simp only [e, e']

theorem grp_apply (n : Fin 512) (d : Fin 64) : grp k b h (ix4 0 n 0 d) = k (ix4 b n ⟨h.val / 4, by omega⟩ d) := by
  have e : (rK b h).emb (ix4 0 n 0 d) = ix4 b n ⟨h.val / 4, by omega⟩ d := by
    funext y
    refine Fin.ext ?_
    rw [Rect.emb_apply]
    fin_cases y <;> simp [ix4]
  unfold grp
  rw [e]

theorem scores_apply (qb : FVec Ideal S256x512 .f32) (g : Vec Ideal S1x512x1x64 .f32) (n : Fin 512) (q : Fin 256) :
    scores qb g h (ix2 n q) = (∑ d : Fin 64, g (ix4 0 n 0 d) * qb (ix2 q ⟨64 * h.val + d.val, by omega⟩)) * Ideal.ofBits .f32 0x3E000000#32 := by
  pointwise [scores]

theorem hMax_apply (qb : FVec Ideal S256x512 .f32) (g : Vec Ideal S1x512x1x64 .f32) (q : Fin 256) :
    hMax qb g h (ix2 0 q) = Soft.top (fun n => scores qb g h (ix2 n q)) Finset.univ := by
  unfold Soft.top
  rw [← Soft.ofBits_low]
  pointwise [hMax]

theorem hExp_apply (qb : FVec Ideal S256x512 .f32) (g : Vec Ideal S1x512x1x64 .f32) (n : Fin 512) (q : Fin 256) :
    hExp qb g h (ix2 n q) = Ideal.exp (scores qb g h (ix2 n q) - hMax qb g h (ix2 0 q)) := by
  pointwise [hExp]

theorem hSum_apply (qb : FVec Ideal S256x512 .f32) (g : Vec Ideal S1x512x1x64 .f32) (q : Fin 256) :
    hSum qb g h (ix2 0 q) = ∑ n : Fin 512, hExp qb g h (ix2 n q) := by
  pointwise [hSum]

theorem hOut_apply (qb : FVec Ideal S256x512 .f32) (g g' : Vec Ideal S1x512x1x64 .f32) (r : Fin 64) (q : Fin 256) :
    hOut qb g g' h (ix2 r q) = ∑ n : Fin 512, g' (ix4 0 n 0 r) * hExp qb g h (ix2 n q) := by
  pointwise [hOut]

theorem halfO_apply (o : FVec Ideal S64x256 .f32) (j : Fin 2) (r : Fin 64) (e : Fin 128) :
    halfO o j (ix3 0 r e) = o (ix2 r ⟨128 * j.val + e.val, by omega⟩) := by
  pointwise [halfO]

theorem half1_apply (o : FVec Ideal S1x256 .f32) (j : Fin 2) (e : Fin 128) :
    half1 o j (ix3 0 0 e) = o (ix2 0 ⟨128 * j.val + e.val, by omega⟩) := by
  pointwise [half1]

/-! ### A device's partial results at an index -/

theorem score_eq (q : Fin 256) : (fun n => scores (qry x w b) (grp k b h) h (ix2 n q)) = lsc x w k b h q := by
  funext n
  rw [scores_apply]
  simp only [grp_apply, qry_apply]
  rfl

theorem max_eq (q : Fin 256) : hMax (qry x w b) (grp k b h) h (ix2 0 q) = Soft.top (lsc x w k b h q) Finset.univ := by
  rw [hMax_apply, score_eq]

theorem exp_eq (q : Fin 256) (n : Fin 512) : hExp (qry x w b) (grp k b h) h (ix2 n q)
    = Ideal.exp (lsc x w k b h q n - Soft.top (lsc x w k b h q) Finset.univ) := by
  rw [hExp_apply, max_eq, ← score_eq]

theorem sum_eq (q : Fin 256) : hSum (qry x w b) (grp k b h) h (ix2 0 q) = Soft.wt (lsc x w k b h q) Finset.univ := by
  rw [hSum_apply]
  simp only [exp_eq]
  rfl

theorem out_eq (r : Fin 64) (q : Fin 256) : hOut (qry x w b) (grp k b h) (grp v b h) h (ix2 r q)
    = Soft.sum (lsc x w k b h q) Finset.univ (lval v b h r) := by
  rw [hOut_apply]
  simp only [exp_eq, grp_apply]
  exact Finset.sum_congr rfl fun n _ => mul_comm _ _

/-- Row `r` of the piece of half `j` of the queries of head `h` in batch row `b`. -/
theorem pile_eq (j : Fin 2) (i : S32x72x128.Idx) (q : Fin 256) (hq : q.val = 128 * j.val + (i 2).val) :
    headPile x w k v b h j i = Soft.stat (lsc x w k b h q) (lval v b h) Finset.univ (i 1).val := by
  have hj : (⟨128 * j.val + (⟨(i 2).val, (i 2).isLt⟩ : Fin 128).val, by have := (i 2).isLt; change (i 2).val < 128 at this; omega⟩ : Fin 256) = q := Fin.ext hq.symm
  unfold headPile pile Soft.stat
  split
  · rw [halfO_apply, hj, out_eq]
  · split
    · rw [half1_apply, hj, max_eq]
    · rw [half1_apply, hj, sum_eq]
end

end Cert.KernelIdeal.Att

end
-- ==== Proof.TreeVal.lean ====
/- Combining the parts of a piece: the softmax sums over all the keys. -/
module

public import proofs.«01_k».proof.Proof.Soft
public import proofs.«01_k».proof.Proof.Proto
public import Idealize.ShloMosaic.Lib.Pointwise.IndexVar

@[expose] public section

set_option maxRecDepth 16384

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

section
variable {L : Nat} (A R : Vec Ideal (SP L) .f32) (s : Fin L) (r : Fin 64) (e : Fin 128)

theorem cMax_apply : cMax A R (ix3 s 0 e) = max (A (ix3 s 64 e)) (R (ix3 s 64 e)) := by
  pointwise [cMax]

theorem cFac_apply (X : Vec Ideal (SP L) .f32) : cFac A R X (ix3 s 0 e) = Ideal.exp (X (ix3 s 64 e) - cMax A R (ix3 s 0 e)) := by
  pointwise [cFac]

theorem cOut_apply : cOut A R (ix3 s r e) = A (ix3 s ⟨r.val, by omega⟩ e) * cFac A R A (ix3 s 0 e) + R (ix3 s ⟨r.val, by omega⟩ e) * cFac A R R (ix3 s 0 e) := by
  have hs (h0 : L = 1 → 0 < L) : (if h : L = 1 then (⟨0, h0 h⟩ : Fin L) else s) = s := by
    split
    · exact Fin.ext (by have := s.isLt; show 0 = s.val; omega)
    · rfl
  pointwise [cOut]
  exact congrArg₂ (· + ·) (congrArg (fun z => A (ix3 s ⟨r.val, by omega⟩ e) * cFac A R A (ix3 z 0 e)) (hs _))
    (congrArg (fun z => R (ix3 s ⟨r.val, by omega⟩ e) * cFac A R R (ix3 z 0 e)) (hs _))

theorem cSum_apply : cSum A R (ix3 s 0 e) = A (ix3 s 65 e) * cFac A R A (ix3 s 0 e) + R (ix3 s 65 e) * cFac A R R (ix3 s 0 e) := by
  pointwise [cSum]
end

/-- The keys in the slots that agree with `i` modulo `L`. -/
def part (L i : Nat) : Finset (Fin 32 × Fin 512) := Finset.univ.filter fun a => a.1.val % L = i

theorem part_split {L i : Nat} (h : i < L) : part L i = part (L + L) i ∪ part (L + L) (i + L) := by
  ext a
  simp only [part, Finset.mem_union, Finset.mem_filter, Finset.mem_univ, true_and]
  have h1 : a.1.val % (L + L) % L = a.1.val % L := Nat.mod_mod_of_dvd _ ⟨2, by omega⟩
  have h2 : a.1.val % (L + L) < L + L := Nat.mod_lt _ (by omega)
  by_cases hc : a.1.val % (L + L) < L
  · rw [Nat.mod_eq_of_lt hc] at h1
    omega
  · have h3 : a.1.val % (L + L) % L = a.1.val % (L + L) - L := by
      rw [Nat.mod_eq_sub_mod (by omega), Nat.mod_eq_of_lt (by omega)]
    omega

theorem part_disjoint {L i : Nat} (h : i < L) : Disjoint (part (L + L) i) (part (L + L) (i + L)) := by
  rw [Finset.disjoint_left]
  intro a h1 h2
  simp only [part, Finset.mem_filter, Finset.mem_univ, true_and] at h1 h2
  omega

section
variable (s : Fin 32 × Fin 512 → EReal) (v : Fin 64 → Fin 32 × Fin 512 → EReal) (e : Fin 128)

/-- Each slot below `L` holds the sums over the keys of the slots that agree with it modulo `L`. -/
def Holds (L : Nat) (g : Big Ideal) : Prop :=
  ∀ (i : Fin 32) (r : Fin 72), i.val < L → r.val < 66 → g (ix3 i r e) = Soft.stat s v (part L i.val) r.val

/-- One round of combining. -/
theorem comb_holds (L : Nat) (h : L + L ≤ 32) (g : Big Ideal) (hg : Holds s v e (L + L) g) : Holds s v e L (combBuf L h g) := by
  intro i r hi hr
  have ga (a : Fin 72) (ha : a.val < 66) : rdC 0 0 L 72 (by omega) (by decide) g (ix3 (⟨i.val, hi⟩ : Fin L) a e)
      = Soft.stat s v (part (L + L) i.val) a.val := by
    rw [rdC_ix]
    have := hg ⟨0 + i.val, by omega⟩ ⟨0 + a.val, by omega⟩ (by show 0 + i.val < L + L; omega) (by show 0 + a.val < 66; omega)
    simp only [Nat.zero_add] at this ⊢
    exact this
  have gr (a : Fin 72) (ha : a.val < 66) : rdC 0 L L 72 h (by decide) g (ix3 (⟨i.val, hi⟩ : Fin L) a e)
      = Soft.stat s v (part (L + L) (i.val + L)) a.val := by
    rw [rdC_ix]
    have := hg ⟨L + i.val, by omega⟩ ⟨0 + a.val, by omega⟩ (by show L + i.val < L + L; omega) (by show 0 + a.val < 66; omega)
    simp only [Nat.zero_add] at this ⊢
    rw [this, Nat.add_comm L i.val]
  have g64 := ga 64 (by decide)
  have r64 := gr 64 (by decide)
  have g65 := ga 65 (by decide)
  have r65 := gr 65 (by decide)
  have s64 (S : Finset (Fin 32 × Fin 512)) : Soft.stat s v S (64 : Fin 72).val = Soft.top s S := rfl
  have s65 (S : Finset (Fin 32 × Fin 512)) : Soft.stat s v S (65 : Fin 72).val = Soft.wt s S := rfl
  rw [s64] at g64 r64
  rw [s65] at g65 r65
  have hp := part_split hi
  have hd := part_disjoint hi
  unfold combBuf laid
  rw [dif_pos (⟨Nat.zero_le _, by show i.val < 0 + L; omega, hr⟩)]
  unfold pile
  by_cases h1 : r.val < 64
  · rw [dif_pos (show ((ix3 i r e : S32x72x128.Idx) 1).val < 64 from h1)]
    refine (cOut_apply _ _ (⟨i.val, hi⟩ : Fin L) ⟨r.val, h1⟩ e).trans ?_
    rw [cFac_apply, cFac_apply, cMax_apply, g64, r64, ga ⟨r.val, by omega⟩ hr, gr ⟨r.val, by omega⟩ hr]
    unfold Soft.stat
    rw [dif_pos h1, dif_pos h1, dif_pos h1, hp, Soft.sum_union s hd]
  · rw [dif_neg (show ¬ ((ix3 i r e : S32x72x128.Idx) 1).val < 64 from h1)]
    by_cases h2 : r.val = 64
    · rw [if_pos (show ((ix3 i r e : S32x72x128.Idx) 1).val = 64 from h2)]
      refine (cMax_apply _ _ (⟨i.val, hi⟩ : Fin L) e).trans ?_
      unfold Soft.stat
      rw [g64, r64, dif_neg h1, if_pos h2, hp, Soft.top_union]
    · rw [if_neg (show ¬ ((ix3 i r e : S32x72x128.Idx) 1).val = 64 from h2)]
      refine (cSum_apply _ _ (⟨i.val, hi⟩ : Fin L) e).trans ?_
      rw [cFac_apply, cFac_apply, cMax_apply, g64, r64, g65, r65]
      unfold Soft.stat
      rw [dif_neg h1, if_neg h2, hp, Soft.wt_union s hd]

/-- All the rounds: the first slot holds the sums over all the keys. -/
theorem tree_holds (g : Big Ideal) (hg : Holds s v e 32 g) (r : Fin 72) (hr : r.val < 66) :
    tree g (ix3 (0 : Fin 32) r e) = Soft.stat s v Finset.univ r.val := by
  have h := comb_holds s v e 1 (by decide) _ (comb_holds s v e 2 (by decide) _ (comb_holds s v e 4 (by decide) _
    (comb_holds s v e 8 (by decide) _ (comb_holds s v e 16 (by decide) g hg))))
  have hu : part 1 0 = Finset.univ := by
    ext a
    simp [part, Nat.mod_one]
  unfold tree
  rw [h 0 r (by decide) hr, ← hu]
  rfl

end

end Cert.KernelIdeal.Att

end
-- ==== Proof.OutVal.lean ====
/- The output projection over the extended reals, read at an index. -/
module

public import proofs.«01_k».proof.Proof.Soft
public import proofs.«01_k».proof.Proof.Buf

@[expose] public section

set_option maxRecDepth 16384

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-- A loop each of whose passes adds a term at an index adds the sum of the terms. -/
theorem accum_sum {T : Type} (i : T) : ∀ (n : Nat) (f : Fin n → (T → EReal) → T → EReal) (t : Fin n → EReal) (a : T → EReal),
    (∀ h a, f h a i = a i + t h) → accum n f a i = a i + ∑ h, t h
  | 0, f, t, a, _ => by simp [accum]
  | n + 1, f, t, a, hf => by
    unfold accum
    rw [accum_sum i n _ (fun h => t h.succ) _ fun h a => hf h.succ a, hf 0 a, Fin.sum_univ_succ, add_assoc]

/-- One head's product. -/
theorem outStep_apply (acc : FVec Ideal S256x768 .f32) (o0 o1 : Vec Ideal S1x64x128 .f32) (l0 l1 : Vec Ideal S1x1x128 .f32)
    (w : Vec Ideal S64x768 .f32) (q : Fin 256) (e : Fin 768) :
    outStep acc o0 o1 l0 l1 w (ix2 q e) = acc (ix2 q e) + ∑ d : Fin 64,
      Ideal.div (if h : q.val < 128 then o0 (ix3 0 d ⟨q.val, h⟩) else o1 (ix3 0 d ⟨q.val - 128, by omega⟩))
        (if h : q.val < 128 then l0 (ix3 0 0 ⟨q.val, h⟩) else l1 (ix3 0 0 ⟨q.val - 128, by omega⟩)) * w (ix2 d e) := by
  pointwise [outStep]

/-- The result from the combined pieces: the heads' attention times the output projection. -/
theorem outVal_apply (g : Big Ideal) (w : S512x768.Idx → Ideal .f32) (b : Fin 2) (q : Fin 256) (e : Fin 768) :
    outVal g w (ix3 b q e) = ∑ h : Fin 8, ∑ d : Fin 64,
      Ideal.div (g (ix3 (pcOf b h ⟨q.val / 128, by omega⟩) (⟨d.val, by omega⟩ : Fin 72) (⟨q.val % 128, by omega⟩ : Fin 128)))
        (g (ix3 (pcOf b h ⟨q.val / 128, by omega⟩) (65 : Fin 72) (⟨q.val % 128, by omega⟩ : Fin 128)))
        * w (ix2 ⟨64 * h.val + d.val, by omega⟩ e) := by
  have hw (h : Fin 8) (d : Fin 64) : (rWo h).emb (ix2 d e) = ix2 ⟨64 * h.val + d.val, by omega⟩ e := by
    funext y
    refine Fin.ext ?_
    rw [Rect.emb_apply]
    fin_cases y <;> simp [ix2]
  have hg (h : Fin 8) (n r : Nat) (hr : n + r ≤ 72) (d : Fin r) :
      (if hq : q.val < 128 then rdC n (pcOf b h 0).val 1 r (pcOf b h 0).isLt hr g (ix3 0 d ⟨q.val, hq⟩)
        else rdC n (pcOf b h 1).val 1 r (pcOf b h 1).isLt hr g (ix3 0 d ⟨q.val - 128, by omega⟩))
      = g (ix3 (pcOf b h ⟨q.val / 128, by omega⟩) (⟨n + d.val, by omega⟩ : Fin 72) (⟨q.val % 128, by omega⟩ : Fin 128)) := by
    by_cases hq : q.val < 128
    · rw [dif_pos hq, rdC_ix]
      congr 2 <;> refine Fin.ext ?_
      · show 2 * (8 * b.val + h.val) + 0 + 0 = 2 * (8 * b.val + h.val) + q.val / 128
        omega
      · show q.val = q.val % 128
        omega
    · rw [dif_neg hq, rdC_ix]
      congr 2 <;> refine Fin.ext ?_
      · show 2 * (8 * b.val + h.val) + 1 + 0 = 2 * (8 * b.val + h.val) + q.val / 128
        omega
      · show q.val - 128 = q.val % 128
        omega
  show outRow g w b (ix2 q e) = _
  unfold outRow
  refine (accum_sum _ 8 _ (fun h : Fin 8 => ∑ d : Fin 64,
      Ideal.div (g (ix3 (pcOf b h ⟨q.val / 128, by omega⟩) (⟨d.val, by omega⟩ : Fin 72) (⟨q.val % 128, by omega⟩ : Fin 128)))
        (g (ix3 (pcOf b h ⟨q.val / 128, by omega⟩) (65 : Fin 72) (⟨q.val % 128, by omega⟩ : Fin 128)))
        * w (ix2 ⟨64 * h.val + d.val, by omega⟩ e)) _ ?_).trans ?_
  · intro h a
    refine (outStep_apply a _ _ _ _ _ q e).trans (congrArg _ (Finset.sum_congr rfl fun d _ => ?_))
    rw [hg h 0 64 (by decide) d, hg h 65 1 (by decide) 0, hw]
    simp only [Nat.zero_add]
    rfl
  · exact (congrArg (· + _) Ideal.ofBits_zero_f32).trans (zero_add _)

end Cert.KernelIdeal.Att

end
-- ==== Proof.RefVal.lean ====
/- The reference's result, read at an index. -/
module

public import proofs.«01_k».proof.Proof.Soft
public import proofs.«01_k».proof.Proof.Gen.ReferenceIdeal
public import proofs.«01_k».proof.Proof.Gen.ReferenceIdeal.Run

@[expose] public section

set_option maxRecDepth 16384

noncomputable section

namespace Cert.ReferenceIdeal.Att

open Idealize.ShloMosaic
open Cert.ReferenceIdeal Cert.ReferenceIdeal.Gen

/-- A query: a row of the input times a column of the projection. -/
def qAt (x : FVec Ideal S2x256x768 .f32) (wq : FVec Ideal S768x512 .f32) (b : Fin 2) (q : Fin 256) (e : Fin 512) : EReal :=
  ∑ k : Fin 768, x (ix3 b q k) * wq (ix2 k e)

/-- The scaled score of a query and a key of head `h`. -/
def sAt (x : FVec Ideal S2x256x768 .f32) (wq : FVec Ideal S768x512 .f32) (K : FVec Ideal S2x16384x2x64 .f32)
    (b : Fin 2) (h : Fin 8) (q : Fin 256) (j : Fin 16384) : EReal :=
  (∑ d : Fin 64, qAt x wq b q ⟨64 * h.val + d.val, by omega⟩ * K (ix4 b j ⟨h.val / 4, by omega⟩ d)) * Ideal.ofBits .f32 0x3E000000#32

/-- The attention of a query: the values summed by the weights, over the sum of the weights. -/
def cAt (x : FVec Ideal S2x256x768 .f32) (wq : FVec Ideal S768x512 .f32) (K V : FVec Ideal S2x16384x2x64 .f32)
    (b : Fin 2) (h : Fin 8) (q : Fin 256) (d : Fin 64) : EReal :=
  Ideal.div (Soft.sum (sAt x wq K b h q) Finset.univ fun j => V (ix4 b j ⟨h.val / 4, by omega⟩ d)) (Soft.wt (sAt x wq K b h q) Finset.univ)

/-- The result: the heads' attention times the output projection. -/
def rAt (x : FVec Ideal S2x256x768 .f32) (wq : FVec Ideal S768x512 .f32) (wo : FVec Ideal S512x768 .f32)
    (K V : FVec Ideal S2x16384x2x64 .f32) (b : Fin 2) (q : Fin 256) (e : Fin 768) : EReal :=
  ∑ h : Fin 8, ∑ d : Fin 64, cAt x wq K V b h q d * wo (ix2 ⟨64 * h.val + d.val, by omega⟩ e)

/-- The reference's scores, weights and attention, as it computes them. -/
def refScore (x : FVec Ideal S2x256x768 .f32) (wq : FVec Ideal S768x512 .f32) (K : FVec Ideal S2x16384x2x64 .f32) : FVec Ideal S2x8x256x16384 .f32 :=
  mulf (Host.dotGeneral dot_S2x256x8x64_S2x16384x8x64_S2x8x256x16384_3_3_1_1_02_02 none
    (shapeCast S2x256x8x64 (Host.dotGeneral dot_S2x256x768_S768x512_S2x256x512_2_0_01_1_n_n none x wq) shapeCasts_S2x256x512_S2x256x8x64)
    (shapeCast S2x16384x8x64 (broadcastInDim S2x16384x2x4x64 ![0, 1, 2, 4] bcast_S2x16384x2x64_S2x16384x2x4x64_0_1_2_4 K) shapeCasts_S2x16384x2x4x64_S2x16384x8x64))
    (broadcastInDim S2x8x256x16384 ![] bcast_S_S2x8x256x16384 (constant S_ .f32 0x3E000000#32))
def refExp (S : FVec Ideal S2x8x256x16384 .f32) : FVec Ideal S2x8x256x16384 .f32 :=
  Host.exp (subf S (broadcastInDim S2x8x256x16384 ![0, 1, 2, 3] bcast_S2x8x256x1_S2x8x256x16384_0_1_2_3 (broadcastInDim S2x8x256x1 ![0, 1, 2] bcast_S2x8x256_S2x8x256x1_0_1_2
    (Host.reduce FloatOps.maximumf S (constant S_ .f32 0xFF800000#32) reducesTo_S2x8x256x16384_S2x8x256_d3 h_S_))))
def refAtt (P : FVec Ideal S2x8x256x16384 .f32) (V : FVec Ideal S2x16384x2x64 .f32) : FVec Ideal S2x8x256x64 .f32 :=
  Host.divf (Host.dotGeneral dot_S2x8x256x16384_S2x16384x8x64_S2x8x256x64_3_1_2_3_01_02 none P
      (shapeCast S2x16384x8x64 (broadcastInDim S2x16384x2x4x64 ![0, 1, 2, 4] bcast_S2x16384x2x64_S2x16384x2x4x64_0_1_2_4 V) shapeCasts_S2x16384x2x4x64_S2x16384x8x64))
    (broadcastInDim S2x8x256x64 ![0, 1, 2, 3] bcast_S2x8x256x1_S2x8x256x64_0_1_2_3 (broadcastInDim S2x8x256x1 ![0, 1, 2] bcast_S2x8x256_S2x8x256x1_0_1_2
      (Host.reduceAdd P (constant S_ .f32 0x00000000#32) reducesTo_S2x8x256x16384_S2x8x256_d3 h_S_)))
def refOut (C : FVec Ideal S2x8x256x64 .f32) (wo : FVec Ideal S512x768 .f32) : FVec Ideal S2x256x768 .f32 :=
  Host.dotGeneral dot_S2x256x512_S512x768_S2x256x768_2_0_01_1_n_n none
    (shapeCast S2x256x512 (transpose S2x256x8x64 [0, 2, 1, 3] C transposes_S2x8x256x64_S2x256x8x64_0_2_1_3) shapeCasts_S2x256x8x64_S2x256x512) wo

theorem refScore_apply (x : FVec Ideal S2x256x768 .f32) (wq : FVec Ideal S768x512 .f32) (K : FVec Ideal S2x16384x2x64 .f32)
    (b : Fin 2) (h : Fin 8) (q : Fin 256) (j : Fin 16384) : refScore x wq K (ix4 b h q j) = sAt x wq K b h q j := by
  have e (n : Nat) : h.val * 64 + n = 64 * h.val + n := by omega
  unfold sAt qAt
  pointwise [refScore]
  simp only [e]

theorem refExp_apply (S : FVec Ideal S2x8x256x16384 .f32) (b : Fin 2) (h : Fin 8) (q : Fin 256) (j : Fin 16384) :
    refExp S (ix4 b h q j) = Ideal.exp (S (ix4 b h q j) - Soft.top (fun i => S (ix4 b h q i)) Finset.univ) := by
  unfold Soft.top
  rw [← Soft.ofBits_low]
  pointwise [refExp]

theorem refAtt_apply (P : FVec Ideal S2x8x256x16384 .f32) (V : FVec Ideal S2x16384x2x64 .f32) (b : Fin 2) (h : Fin 8) (q : Fin 256) (d : Fin 64) :
    refAtt P V (ix4 b h q d) = Ideal.div (∑ j : Fin 16384, P (ix4 b h q j) * V (ix4 b j ⟨h.val / 4, by omega⟩ d)) (∑ j : Fin 16384, P (ix4 b h q j)) := by
  pointwise [refAtt]

theorem refOut_apply (C : FVec Ideal S2x8x256x64 .f32) (wo : FVec Ideal S512x768 .f32) (b : Fin 2) (q : Fin 256) (e : Fin 768) :
    refOut C wo (ix3 b q e) = ∑ k : Fin 512, C (ix4 b ⟨k.val / 64, by omega⟩ q ⟨k.val % 64, by omega⟩) * wo (ix2 k e) := by
  pointwise [refOut]

/-- A column of the projected queries, by head and position within the head. -/
def headDim : Fin 8 × Fin 64 ≃ Fin 512 where
  toFun p := ⟨64 * p.1.val + p.2.val, by omega⟩
  invFun k := (⟨k.val / 64, by omega⟩, ⟨k.val % 64, by omega⟩)
  left_inv p := by
    have := p.2.isLt
    refine Prod.ext (Fin.ext ?_) (Fin.ext ?_)
    · show (64 * p.1.val + p.2.val) / 64 = p.1.val
      omega
    · show (64 * p.1.val + p.2.val) % 64 = p.2.val
      omega
  right_inv k := Fin.ext (by show 64 * (k.val / 64) + k.val % 64 = k.val; omega)

/-- The reference's result at an index. -/
theorem ref_apply (x : FVec Ideal S2x256x768 .f32) (wq : FVec Ideal S768x512 .f32) (wo : FVec Ideal S512x768 .f32)
    (K V : FVec Ideal S2x16384x2x64 .f32) (b : Fin 2) (q : Fin 256) (e : Fin 768) :
    refOut (refAtt (refExp (refScore x wq K)) V) wo (ix3 b q e) = rAt x wq wo K V b q e := by
  have hs (h : Fin 8) (j : Fin 16384) : refExp (refScore x wq K) (ix4 b h q j)
      = Ideal.exp (sAt x wq K b h q j - Soft.top (sAt x wq K b h q) Finset.univ) := by
    rw [refExp_apply, refScore_apply, show (fun i => refScore x wq K (ix4 b h q i)) = sAt x wq K b h q from funext fun i => refScore_apply x wq K b h q i]
  have hc (h : Fin 8) (d : Fin 64) : refAtt (refExp (refScore x wq K)) V (ix4 b h q d) = cAt x wq K V b h q d := by
    rw [refAtt_apply]
    simp only [hs]
    rfl
  rw [refOut_apply]
  unfold rAt
  rw [← headDim.sum_comp, Fintype.sum_prod_type]
  refine Finset.sum_congr rfl fun h _ => Finset.sum_congr rfl fun d _ => ?_
  have h1 : (headDim (h, d)).val = 64 * h.val + d.val := rfl
  have hl := d.isLt
  have e1 : (⟨(headDim (h, d)).val / 64, by omega⟩ : Fin 8) = h := Fin.ext (by show (headDim (h, d)).val / 64 = h.val; omega)
  have e2 : (⟨(headDim (h, d)).val % 64, by omega⟩ : Fin 64) = d := Fin.ext (by show (headDim (h, d)).val % 64 = d.val; omega)
  rw [e1, e2, hc]
  rfl

end Cert.ReferenceIdeal.Att

end
-- ==== Proof.Value.lean ====
/- The kernel's result over the extended reals is the reference's. -/
module

public import proofs.«01_k».proof.Proof.HeadVal
public import proofs.«01_k».proof.Proof.TreeVal
public import proofs.«01_k».proof.Proof.OutVal
public import proofs.«01_k».proof.Proof.RefVal

@[expose] public section

set_option maxRecDepth 16384

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

open Cert.ReferenceIdeal.Att (qAt sAt cAt rAt)

/-! ### The keys of the slots -/

theorem srcOf_inj : ∀ (p : Dev nD), Function.Injective (srcOf p) := by
  have h : ∀ (p : Dev nD) (t t' : Fin 32), srcOf p t = srcOf p t' → t = t' := by decide +kernel
  exact fun p t t' e => h p t t' e

/-- The slots of piece `p` against the devices. -/
def slots (p : Dev nD) : Fin 32 ≃ Fin 32 := Equiv.ofBijective (srcOf p) (Finite.injective_iff_bijective.mp (srcOf_inj p))

/-- A key, by the device that holds it and its position there. -/
def keyOf : Fin 32 × Fin 512 ≃ Fin 16384 where
  toFun p := ⟨512 * p.1.val + p.2.val, by omega⟩
  invFun k := (⟨k.val / 512, by omega⟩, ⟨k.val % 512, by omega⟩)
  left_inv p := by
    have := p.2.isLt
    refine Prod.ext (Fin.ext ?_) (Fin.ext ?_)
    · show (512 * p.1.val + p.2.val) / 512 = p.1.val
      omega
    · show (512 * p.1.val + p.2.val) % 512 = p.2.val
      omega
  right_inv k := Fin.ext (by show 512 * (k.val / 512) + k.val % 512 = k.val; omega)

/-- A key, by the slot of piece `p` that its device's part comes to. -/
def keyAt (p : Dev nD) : Fin 32 × Fin 512 ≃ Fin 16384 := ((slots p).prodCongr (Equiv.refl _)).trans keyOf

theorem keyAt_apply (p : Dev nD) (t : Fin 32) (n : Fin 512) : keyAt p (t, n) = keyOf (srcOf p t, n) := rfl

/-- The keys of one slot. -/
theorem part_slot (i : Fin 32) : part 32 i.val = Finset.univ.image fun n : Fin 512 => (i, n) := by
  ext a
  have := a.1.isLt
  simp only [part, Finset.mem_filter, Finset.mem_univ, true_and, Finset.mem_image]
  constructor
  · intro h
    exact ⟨a.2, Prod.ext (Fin.ext (by show i.val = a.1.val; omega)) rfl⟩
  · rintro ⟨n, rfl⟩
    show i.val % 32 = i.val
    omega

section
variable (x : S2x256x768.Idx → Ideal .f32) (wq : S768x512.Idx → Ideal .f32) (wo : S512x768.Idx → Ideal .f32)
  (K V : (⟨4, ![2, 16384, 2, 64]⟩ : Shape).Idx → Ideal .f32) (kc vc : Dev nD → S2x512x2x64.Idx → Ideal .f32)
  (hk : ∀ (c : Dev nD) (b : Fin 2) (n : Fin 512) (g : Fin 2) (d : Fin 64), kc c (ix4 b n g d) = K (ix4 b (keyOf (c, n)) g d))
  (hv : ∀ (c : Dev nD) (b : Fin 2) (n : Fin 512) (g : Fin 2) (d : Fin 64), vc c (ix4 b n g d) = V (ix4 b (keyOf (c, n)) g d))
include hk in
theorem ls_eq (c : Dev nD) (b : Fin 2) (h : Fin 8) (q : Fin 256) (n : Fin 512) :
    lsc x wq (kc c) b h q n = sAt x wq K b h q (keyOf (c, n)) := by
  unfold lsc sAt
  congr 1
  refine Finset.sum_congr rfl fun d _ => ?_
  rw [hk, mul_comm]
  rfl

include hk hv in
/-- A row in use of a combined piece. -/
theorem fin_eq (hb : Dev nD → Big Ideal) (hhb : ∀ c, hb c = headBuf x wq (kc c) (vc c)) (b : Fin 2) (h : Fin 8) (q : Fin 256)
    (r : Fin 72) (hr : r.val < 66) :
    finBuf hb (ix3 (pcOf b h ⟨q.val / 128, by omega⟩) r (⟨q.val % 128, by omega⟩ : Fin 128))
      = Soft.stat (sAt x wq K b h q) (fun d j => V (ix4 b j ⟨h.val / 4, by omega⟩ d)) Finset.univ r.val := by
  have hp : (pcOf b h ⟨q.val / 128, by omega⟩).val = 2 * (8 * b.val + h.val) + q.val / 128 := rfl
  generalize pcOf b h ⟨q.val / 128, by omega⟩ = p at hp
  show tree (slotBuf hb p) (ix3 (0 : Fin 32) r (⟨q.val % 128, by omega⟩ : Fin 128)) = _
  rw [tree_holds (fun a => sAt x wq K b h q (keyAt p a)) (fun d a => V (ix4 b (keyAt p a) ⟨h.val / 4, by omega⟩ d)) _ _ ?_ r hr]
  · exact Soft.stat_map (keyAt p) (sAt x wq K b h q) (fun d j => V (ix4 b j ⟨h.val / 4, by omega⟩ d)) r.val
  · intro i r hi hr
    rw [part_slot i, Soft.stat_image (fun n : Fin 512 => (i, n)) (fun n n' e => congrArg Prod.snd e)]
    show hb (srcOf p i) (ix3 p r (⟨q.val % 128, by omega⟩ : Fin 128)) = _
    rw [hhb]
    have hb' : (⟨p.val / 16, by omega⟩ : Fin 2) = b := Fin.ext (by show p.val / 16 = b.val; omega)
    have hh' : (⟨p.val / 2 % 8, by omega⟩ : Fin 8) = h := Fin.ext (by show p.val / 2 % 8 = h.val; omega)
    show headPile x wq (kc (srcOf p i)) (vc (srcOf p i)) ⟨p.val / 16, by omega⟩ ⟨p.val / 2 % 8, by omega⟩ ⟨p.val % 2, by omega⟩
      (ix3 p r (⟨q.val % 128, by omega⟩ : Fin 128)) = _
    rw [hb', hh', pile_eq x wq _ _ b h _ _ q (by show q.val = 128 * (p.val % 2) + q.val % 128; omega)]
    have e1 : lsc x wq (kc (srcOf p i)) b h q = fun n => sAt x wq K b h q (keyAt p (i, n)) :=
      funext fun n => ls_eq x wq K kc hk _ b h q n
    have e2 : lval (vc (srcOf p i)) b h = fun d n => V (ix4 b (keyAt p (i, n)) ⟨h.val / 4, by omega⟩ d) :=
      funext fun d => funext fun n => hv _ b n _ d
    rw [e1, e2]
    rfl

include hk hv in
/-- The kernel's result at an index is the reference's. -/
theorem value_eq (hb : Dev nD → Big Ideal) (hhb : ∀ c, hb c = headBuf x wq (kc c) (vc c)) (b : Fin 2) (q : Fin 256) (e : Fin 768) :
    outVal (finBuf hb) wo (ix3 b q e) = rAt x wq wo K V b q e := by
  rw [outVal_apply]
  unfold rAt cAt
  refine Finset.sum_congr rfl fun h _ => Finset.sum_congr rfl fun d _ => ?_
  rw [fin_eq x wq K V kc vc hk hv hb hhb b h q _ (by show d.val < 66; omega), fin_eq x wq K V kc vc hk hv hb hhb b h q 65 (by decide)]
  have e1 : Soft.stat (sAt x wq K b h q) (fun d j => V (ix4 b j ⟨h.val / 4, by omega⟩ d)) Finset.univ (⟨d.val, by omega⟩ : Fin 72).val
      = Soft.sum (sAt x wq K b h q) Finset.univ fun j => V (ix4 b j ⟨h.val / 4, by omega⟩ d) := by
    unfold Soft.stat
    exact dif_pos d.isLt
  rw [e1]
  rfl
end

end Cert.KernelIdeal.Att

end
-- ==== Proof.Final.lean ====
/- What the arrays hold after a run: each argument as the body found it, the result as the body left it. -/
module

public import proofs.«01_k».proof.Proof.Launch
public import proofs.«01_k».proof.Proof.Value

@[expose] public section

set_option maxRecDepth 16384

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

open Idealize.ShloMosaic.Pipeline (Dat Cfg Window)

variable (m : (ℓ : Loc nD τ sig) → Buf (Elt F) ℓ) (ρ : Dev nD → PrngReg)

/-- The result array, read through its one block, holds what the body left. -/
theorem final_read (c : Dev nD) : (win0_5.blk t0_0).view.read (Elt F) (final m ρ c (5 : Fin 6)) = outAt m c := by
  unfold final
  rw [show cfg0.N = (t0_0 : Fin cfg0.N).val + 1 from rfl, (dats (F := F) m ρ 0 c).arrAt_succ (5 : Fin 6) t0_0,
    show (cfg0.win (5 : Fin 6)).flush t0_0 = true from flush0_5 _, if_pos rfl]
  exact View.read_write_univ _ _

/-- That block is the whole array. -/
theorem final_out (c : Dev nD) : final m ρ c (5 : Fin 6) = outAt m c := by
  have hz : (fun a => (win0_5.index t0_0) a * main_v1.ty.shape.size a) = fun _ => 0 := funext fun a => by fin_cases a <;> decide
  have hr := fun f => Memref.read_access_unit_zero (Elt F) main_v1 hz (fun a => by fin_cases a <;> decide) f
  have ho := final_read m ρ c
  rw [hr] at ho
  exact ho

/-- The body finds each argument whole. -/
theorem xIn_eq (c : Dev nD) : xIn m c = m ((c : Thread nD τ).loc main_arg0) :=
  Memref.read_access_unit_zero (Elt F) main_arg0 (off := fun a => (win0_0.index t0_0) a * main_arg0.ty.shape.size a)
    (funext fun a => by fin_cases a <;> decide) (fun a => by fin_cases a <;> decide) _
theorem qIn_eq (c : Dev nD) : qIn m c = m ((c : Thread nD τ).loc main_arg1) :=
  Memref.read_access_unit_zero (Elt F) main_arg1 (off := fun a => (win0_1.index t0_0) a * main_arg1.ty.shape.size a)
    (funext fun a => by fin_cases a <;> decide) (fun a => by fin_cases a <;> decide) _
theorem wIn_eq (c : Dev nD) : wIn m c = m ((c : Thread nD τ).loc main_arg2) :=
  Memref.read_access_unit_zero (Elt F) main_arg2 (off := fun a => (win0_2.index t0_0) a * main_arg2.ty.shape.size a)
    (funext fun a => by fin_cases a <;> decide) (fun a => by fin_cases a <;> decide) _
theorem kIn_eq (c : Dev nD) : kIn m c = m ((c : Thread nD τ).loc main_arg3) :=
  Memref.read_access_unit_zero (Elt F) main_arg3 (off := fun a => (win0_3.index t0_0) a * main_arg3.ty.shape.size a)
    (funext fun a => by fin_cases a <;> decide) (fun a => by fin_cases a <;> decide) _
theorem vIn_eq (c : Dev nD) : vIn m c = m ((c : Thread nD τ).loc main_arg4) :=
  Memref.read_access_unit_zero (Elt F) main_arg4 (off := fun a => (win0_4.index t0_0) a * main_arg4.ty.shape.size a)
    (funext fun a => by fin_cases a <;> decide) (fun a => by fin_cases a <;> decide) _

end Cert.KernelIdeal.Att

end
-- ==== Proof.Conform.lean ====
/- The kernel's result array and the reference's hold the same. -/
module

public import proofs.«01_k».proof.Proof.Final
public import Idealize.ShloMosaic.Lib.LayoutAt

@[expose] public section

set_option maxRecDepth 16384

noncomputable section

namespace Cert.KernelIdeal.Att

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

open Cert.ReferenceIdeal.Att (refOut refAtt refExp refScore rAt ref_apply)

/-- A device's block of the keys or values, by the key's number. -/
theorem block_apply (X : (⟨4, ![2, 16384, 2, 64]⟩ : Shape).Idx → Ideal .f32) (c : Dev nD) (b : Fin 2) (n : Fin 512) (g : Fin 2) (d : Fin 64) :
    Layout.block ⟨4, ![2, 512, 2, 64]⟩ ⟨4, ![2, 16384, 2, 64]⟩ 1 32 c X (by decide) (ix4 b n g d) = X (ix4 b (keyOf (c, n)) g d) := by
  have hk : (keyOf (c, n)).val = c.val * 512 + n.val := by
    show 512 * c.val + n.val = _
    omega
  rw [Layout.block_apply]
  congr 1
  generalize keyOf (c, n) = j at hk
  shard_ext

variable (m : (ℓ : Loc nD τ sig) → Buf (Elt Ideal) ℓ)

/-- What a device's result array ends holding. -/
theorem out_conform (x : S2x256x768.Idx → Ideal .f32) (wq : S768x512.Idx → Ideal .f32) (wo : S512x768.Idx → Ideal .f32)
    (K V : (⟨4, ![2, 16384, 2, 64]⟩ : Shape).Idx → Ideal .f32)
    (h : ∀ c : Dev nD, m ((c : Thread nD τ).loc main_arg0) = x ∧ m ((c : Thread nD τ).loc main_arg1) = wq ∧ m ((c : Thread nD τ).loc main_arg2) = wo
      ∧ m ((c : Thread nD τ).loc main_arg3) = Layout.block ⟨4, ![2, 512, 2, 64]⟩ ⟨4, ![2, 16384, 2, 64]⟩ 1 32 c K
      ∧ m ((c : Thread nD τ).loc main_arg4) = Layout.block ⟨4, ![2, 512, 2, 64]⟩ ⟨4, ![2, 16384, 2, 64]⟩ 1 32 c V) (c : Dev nD) :
    outAt m c = refOut (refAtt (refExp (refScore x wq K)) V) wo := by
  have hp (c : Dev nD) : parts m c = headBuf x wq (m ((c : Thread nD τ).loc main_arg3)) (m ((c : Thread nD τ).loc main_arg4)) := by
    unfold parts
    rw [xIn_eq, qIn_eq, kIn_eq, vIn_eq, (h c).1, (h c).2.1]
    rfl
  have hw : outAt m c = outVal (finBuf (parts m)) wo := by
    unfold outAt
    rw [wIn_eq, (h c).2.2.1]
    rfl
  rw [hw]
  funext i
  obtain ⟨b, q, e, rfl⟩ : ∃ (b : Fin 2) (q : Fin 256) (e : Fin 768), i = ix3 b q e := ⟨i 0, i 1, i 2, eq_ix3 i⟩
  refine (value_eq x wq wo K V (fun c => m ((c : Thread nD τ).loc main_arg3)) (fun c => m ((c : Thread nD τ).loc main_arg4)) ?_ ?_ (parts m) hp b q e).trans
    (ref_apply x wq wo K V b q e).symm
  · intro c b n g d
    exact (congrFun (h c).2.2.2.1 (ix4 b n g d)).trans (block_apply K c b n g d)
  · intro c b n g d
    exact (congrFun (h c).2.2.2.2 (ix4 b n g d)).trans (block_apply V c b n g d)

end Cert.KernelIdeal.Att

end
-- ==== Proof.lean ====
/- The claims: each program's run, read at its arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.K.Launch
public import proofs.«01_k».proof.Proof.Conform
public import Idealize.ShloMosaic.Adequacy
public import Idealize.ShloMosaic.Init

@[expose] public section

noncomputable section

namespace Cert.Proof

open Idealize.ShloMosaic Idealize.SL.Sem

theorem frame_kernel : Cert.quiescent_Kernel := fun m g _ =>
  (θ_run Cert.Kernel.defs _ _).mono (fun r h => ⟨fun c =>
    ⟨(h.1 c 0).trans (Cert.Kernel.Att.final_in m g c 0 rfl), (h.1 c 1).trans (Cert.Kernel.Att.final_in m g c 1 rfl),
      (h.1 c 2).trans (Cert.Kernel.Att.final_in m g c 2 rfl), (h.1 c 3).trans (Cert.Kernel.Att.final_in m g c 3 rfl),
      (h.1 c 4).trans (Cert.Kernel.Att.final_in m g c 4 rfl)⟩, h.2⟩) (Cert.Kernel.Att.run_main m g)

theorem frame_ideal : Cert.quiescent_KernelIdeal := fun m g _ =>
  (θ_run Cert.KernelIdeal.defs _ _).mono (fun r h => ⟨fun c =>
    ⟨(h.1 c 0).trans (Cert.KernelIdeal.Att.final_in m g c 0 rfl), (h.1 c 1).trans (Cert.KernelIdeal.Att.final_in m g c 1 rfl),
      (h.1 c 2).trans (Cert.KernelIdeal.Att.final_in m g c 2 rfl), (h.1 c 3).trans (Cert.KernelIdeal.Att.final_in m g c 3 rfl),
      (h.1 c 4).trans (Cert.KernelIdeal.Att.final_in m g c 4 rfl)⟩, h.2⟩) (Cert.KernelIdeal.Att.run_main m g)

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Both runs, from memories that hold the same arguments, end with the same result. -/
theorem value : Cert.algebraic_KernelIdeal_ReferenceIdeal := by
  intro m g m' g' _ ha
  refine ⟨Cert.ReferenceIdeal.Att.refOut (Cert.ReferenceIdeal.Att.refAtt (Cert.ReferenceIdeal.Att.refExp (Cert.ReferenceIdeal.Att.refScore
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg3))))
      (m' (((0 : Dev Cert.ReferenceIdeal.nD).tc : Thread Cert.ReferenceIdeal.nD Cert.ReferenceIdeal.τ).loc Cert.ReferenceIdeal.main_arg4)))
      (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ⟨?_,
      (h.1 c 0).trans (Cert.KernelIdeal.Att.final_in m g c 0 rfl), (h.1 c 1).trans (Cert.KernelIdeal.Att.final_in m g c 1 rfl),
      (h.1 c 2).trans (Cert.KernelIdeal.Att.final_in m g c 2 rfl), (h.1 c 3).trans (Cert.KernelIdeal.Att.final_in m g c 3 rfl),
      (h.1 c 4).trans (Cert.KernelIdeal.Att.final_in m g c 4 rfl)⟩) (Cert.KernelIdeal.Att.run_main m g)
    exact (h.1 c 5).trans ((Cert.KernelIdeal.Att.final_out m g c).trans (Cert.KernelIdeal.Att.out_conform m _ _ _ _ _ ha c))
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, value⟩

end Cert.Proof

end
